-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3_0)) (v1 : (c : Dev Cert.KernelIdeal.nD) → Buf (Elt Ideal) ((c.tc : Thread Cert.KernelIdeal.nD Cert.KernelIdeal.τ).loc Cert.KernelIdeal.main_v3_1)) (v2 : (c : Dev Cert.KernelIdeal.nD) → Buf (Elt Ideal) ((c.tc : Thread Cert.KernelIdeal.nD Cert.KernelIdeal.τ).loc Cert.KernelIdeal.main_v1_0)) (v3 : (c : Dev Cert.KernelIdeal.nD) → Buf (Elt Ideal) ((c.tc : Thread Cert.KernelIdeal.nD Cert.KernelIdeal.τ).loc Cert.KernelIdeal.main_v1_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_0) = v0 c
          ∧ r.2.mem ((c.tc : Thread Cert.KernelIdeal.nD Cert.KernelIdeal.τ).loc Cert.KernelIdeal.main_v3_1) = v1 c
          ∧ r.2.mem ((c.tc : Thread Cert.KernelIdeal.nD Cert.KernelIdeal.τ).loc Cert.KernelIdeal.main_v1_0) = v2 c
          ∧ r.2.mem ((c.tc : Thread Cert.KernelIdeal.nD Cert.KernelIdeal.τ).loc Cert.KernelIdeal.main_v1_1) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2_0) = v0 c
          ∧ r.2.mem ((c.tc : Thread Cert.ReferenceIdeal.nD Cert.ReferenceIdeal.τ).loc Cert.ReferenceIdeal.main_v2_1) = v1 c
          ∧ r.2.mem ((c.tc : Thread Cert.ReferenceIdeal.nD Cert.ReferenceIdeal.τ).loc Cert.ReferenceIdeal.main_v2_2) = v2 c
          ∧ r.2.mem ((c.tc : Thread Cert.ReferenceIdeal.nD Cert.ReferenceIdeal.τ).loc Cert.ReferenceIdeal.main_v2_3) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S8x3072x8192 : Shape := ⟨3, ![8, 3072, 8192]⟩
abbrev S8192x11264 : Shape := ⟨2, ![8192, 11264]⟩
abbrev S11264 : Shape := ⟨1, ![11264]⟩
abbrev S24576x8192 : Shape := ⟨2, ![24576, 8192]⟩
abbrev S24576x1 : Shape := ⟨2, ![24576, 1]⟩
abbrev S256x8192 : Shape := ⟨2, ![256, 8192]⟩
abbrev S256x1 : Shape := ⟨2, ![256, 1]⟩
abbrev S256 : Shape := ⟨1, ![256]⟩
abbrev S1x11264 : Shape := ⟨2, ![1, 11264]⟩
abbrev S24576x5632 : Shape := ⟨2, ![24576, 5632]⟩
abbrev S512x8192 : Shape := ⟨2, ![512, 8192]⟩
abbrev S512x1 : Shape := ⟨2, ![512, 1]⟩
abbrev S8192x512 : Shape := ⟨2, ![8192, 512]⟩
abbrev S1x512 : Shape := ⟨2, ![1, 512]⟩
abbrev S512x5632 : Shape := ⟨2, ![512, 5632]⟩
abbrev S11x512x512 : Shape := ⟨3, ![11, 512, 512]⟩
abbrev S512x128 : Shape := ⟨2, ![512, 128]⟩
abbrev S512x512 : Shape := ⟨2, ![512, 512]⟩
abbrev S1x512x512 : Shape := ⟨3, ![1, 512, 512]⟩
abbrev S512 : Shape := ⟨1, ![512]⟩

abbrev nBuf : Space → Nat
  | .hbm => 9
  | .vmem => 24
  | .smem => 0
  | _ => 0

abbrev bufTy : (tb : Table) → Fin (tcTables nBuf tb) → BufTy
  | .hbm, ⟨0, _⟩ => ⟨S8x3072x8192, .bf16⟩
  | .hbm, ⟨1, _⟩ => ⟨S8192x11264, .fp8e4m3⟩
  | .hbm, ⟨2, _⟩ => ⟨S11264, .f32⟩
  | .hbm, ⟨3, _⟩ => ⟨S24576x8192, .bf16⟩
  | .hbm, ⟨4, _⟩ => ⟨S24576x8192, .fp8e4m3⟩
  | .hbm, ⟨5, _⟩ => ⟨S24576x1, .f32⟩
  | .hbm, ⟨6, _⟩ => ⟨S1x11264, .f32⟩
  | .hbm, ⟨7, _⟩ => ⟨S24576x1, .f32⟩
  | .hbm, ⟨8, _⟩ => ⟨S24576x5632, .fp8e4m3⟩
  | .local _ .vmem, ⟨0, _⟩ => ⟨S256x8192, .bf16⟩
  | .local _ .vmem, ⟨1, _⟩ => ⟨S256x8192, .bf16⟩
  | .local _ .vmem, ⟨2, _⟩ => ⟨S256x8192, .fp8e4m3⟩
  | .local _ .vmem, ⟨3, _⟩ => ⟨S256x8192, .fp8e4m3⟩
  | .local _ .vmem, ⟨4, _⟩ => ⟨S256x1, .f32⟩
  | .local _ .vmem, ⟨5, _⟩ => ⟨S256x1, .f32⟩
  | .local _ .vmem, ⟨6, _⟩ => ⟨S512x8192, .fp8e4m3⟩
  | .local _ .vmem, ⟨7, _⟩ => ⟨S512x8192, .fp8e4m3⟩
  | .local _ .vmem, ⟨8, _⟩ => ⟨S512x1, .f32⟩
  | .local _ .vmem, ⟨9, _⟩ => ⟨S512x1, .f32⟩
  | .local _ .vmem, ⟨10, _⟩ => ⟨S8192x512, .fp8e4m3⟩
  | .local _ .vmem, ⟨11, _⟩ => ⟨S8192x512, .fp8e4m3⟩
  | .local _ .vmem, ⟨12, _⟩ => ⟨S8192x512, .fp8e4m3⟩
  | .local _ .vmem, ⟨13, _⟩ => ⟨S8192x512, .fp8e4m3⟩
  | .local _ .vmem, ⟨14, _⟩ => ⟨S1x512, .f32⟩
  | .local _ .vmem, ⟨15, _⟩ => ⟨S1x512, .f32⟩
  | .local _ .vmem, ⟨16, _⟩ => ⟨S1x512, .f32⟩
  | .local _ .vmem, ⟨17, _⟩ => ⟨S1x512, .f32⟩
  | .local _ .vmem, ⟨18, _⟩ => ⟨S512x1, .f32⟩
  | .local _ .vmem, ⟨19, _⟩ => ⟨S512x1, .f32⟩
  | .local _ .vmem, ⟨20, _⟩ => ⟨S512x5632, .fp8e4m3⟩
  | .local _ .vmem, ⟨21, _⟩ => ⟨S512x5632, .fp8e4m3⟩
  | .local _ .vmem, ⟨22, _⟩ => ⟨S11x512x512, .f32⟩
  | .local _ .vmem, ⟨23, _⟩ => ⟨S512x128, .f32⟩
  | _, _ => ⟨S8x3072x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc1_stg4_0 : Ref sig .tc := ⟨.vmem, 14, rfl⟩
abbrev cc1_stg4_1 : Ref sig .tc := ⟨.vmem, 15, rfl⟩
abbrev cc1_stg5_0 : Ref sig .tc := ⟨.vmem, 16, rfl⟩
abbrev cc1_stg5_1 : Ref sig .tc := ⟨.vmem, 17, rfl⟩
abbrev cc1_stg6_0 : Ref sig .tc := ⟨.vmem, 18, rfl⟩
abbrev cc1_stg6_1 : Ref sig .tc := ⟨.vmem, 19, rfl⟩
abbrev cc1_stg7_0 : Ref sig .tc := ⟨.vmem, 20, rfl⟩
abbrev cc1_stg7_1 : Ref sig .tc := ⟨.vmem, 21, rfl⟩
abbrev cc1_scratch0 : Ref sig .tc := ⟨.vmem, 22, rfl⟩
abbrev cc1_scratch1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13
abbrev cc1_sem4_0 : DmaSem sig := 14
abbrev cc1_sem4_1 : DmaSem sig := 15
abbrev cc1_sem5_0 : DmaSem sig := 16
abbrev cc1_sem5_1 : DmaSem sig := 17
abbrev cc1_sem6_0 : DmaSem sig := 18
abbrev cc1_sem6_1 : DmaSem sig := 19
abbrev cc1_sem7_0 : DmaSem sig := 20
abbrev cc1_sem7_1 : DmaSem sig := 21

abbrev nD : Nat := 1
abbrev τ : Topo := Topo.v7x

variable {F : FTy → Type} [FloatOps F]

abbrev grid0 : Pipeline.Grid := ⟨1, ![96], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x8192 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x8192 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![48, 11], ![false, false]⟩

def k1_off1 (i : grid1.Coords) : Fin 3 → Nat :=
  let arg1 : BitVec 32 := BitVec.ofNat 32 (i 1).val
  let v23 : Index := Scalar.indexCast arg1
  let c0_12 : Index := 0#32
  let c0_13 : Index := 0#32
  ![v23.toNat, 0, 0]
def k1_cond1 (i : grid1.Coords) : BitVec 1 :=
  let arg1 : BitVec 32 := BitVec.ofNat 32 (i 1).val
  let c10_i32 : BitVec 32 := 10#32
  let v42 : BitVec 1 := Scalar.cmpi .eq arg1 c10_i32
  let v43 : BitVec 32 := Scalar.extui v42
  let c0_i32_18 : BitVec 32 := 0#32
  let v44 : BitVec 1 := Scalar.cmpi .ne v43 c0_i32_18
  v44

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_3 (i : grid1.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi arg1 c11_i32
  let c0_i32 : BitVec 32 := 0#32
  let c0_i32_0 : BitVec 32 := 0#32
  ![c0_i32.toNat, v0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_5 (i : grid1.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi arg1 c11_i32
  let c0_i32 : BitVec 32 := 0#32
  let c0_i32_0 : BitVec 32 := 0#32
  ![c0_i32.toNat, v0.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_7 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S512x8192 .fp8e4m3 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S512x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S8192x512 .fp8e4m3 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 2 → Memref sig .tc .vmem S8192x512 .fp8e4m3 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![false, true]

abbrev stage1_4 : Fin 2 → Memref sig .tc .vmem S1x512 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![false, true]

abbrev stage1_5 : Fin 2 → Memref sig .tc .vmem S1x512 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![false, true]

abbrev stage1_6 : Fin 2 → Memref sig .tc .vmem S512x1 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, false]

abbrev stage1_7 : Fin 2 → Memref sig .tc .vmem S512x5632 .fp8e4m3 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, false]
-- ==== ReferenceIdeal.lean ====
abbrev S8x3072x8192 : Shape := ⟨3, ![8, 3072, 8192]⟩
abbrev S8192x11264 : Shape := ⟨2, ![8192, 11264]⟩
abbrev S11264 : Shape := ⟨1, ![11264]⟩
abbrev S24576x8192 : Shape := ⟨2, ![24576, 8192]⟩
abbrev S1x11264 : Shape := ⟨2, ![1, 11264]⟩
abbrev S24576x1 : Shape := ⟨2, ![24576, 1]⟩
abbrev S24576x5632 : Shape := ⟨2, ![24576, 5632]⟩
abbrev S24576 : Shape := ⟨1, ![24576]⟩
abbrev S24576x11264 : Shape := ⟨2, ![24576, 11264]⟩

abbrev nBuf : Space → Nat
  | .hbm => 9
  | .vmem => 7
  | .smem => 0
  | _ => 0

abbrev bufTy : (tb : Table) → Fin (tcTables nBuf tb) → BufTy
  | .hbm, ⟨0, _⟩ => ⟨S8x3072x8192, .bf16⟩
  | .hbm, ⟨1, _⟩ => ⟨S8192x11264, .fp8e4m3⟩
  | .hbm, ⟨2, _⟩ => ⟨S11264, .f32⟩
  | .hbm, ⟨3, _⟩ => ⟨S24576x8192, .bf16⟩
  | .hbm, ⟨4, _⟩ => ⟨S1x11264, .f32⟩
  | .hbm, ⟨5, _⟩ => ⟨S24576x1, .f32⟩
  | .hbm, ⟨6, _⟩ => ⟨S24576x5632, .fp8e4m3⟩
  | .hbm, ⟨7, _⟩ => ⟨S24576x8192, .fp8e4m3⟩
  | .hbm, ⟨8, _⟩ => ⟨S24576x1, .f32⟩
  | .local _ .vmem, ⟨0, _⟩ => ⟨S24576x8192, .bf16⟩
  | .local _ .vmem, ⟨1, _⟩ => ⟨S8192x11264, .fp8e4m3⟩
  | .local _ .vmem, ⟨2, _⟩ => ⟨S1x11264, .f32⟩
  | .local _ .vmem, ⟨3, _⟩ => ⟨S24576x1, .f32⟩
  | .local _ .vmem, ⟨4, _⟩ => ⟨S24576x5632, .fp8e4m3⟩
  | .local _ .vmem, ⟨5, _⟩ => ⟨S24576x8192, .fp8e4m3⟩
  | .local _ .vmem, ⟨6, _⟩ => ⟨S24576x1, .f32⟩
  | _, _ => ⟨S8x3072x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev main_v2_2 : Ref sig .tc := ⟨.hbm, 7, rfl⟩
abbrev main_v2_3 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F] [Named F]

def κ : String → Option EReal := fun
  | "ln_2" => some ((Real.log 2 : ℝ) : EReal)
  | _ => none

abbrev grid0 : Pipeline.Grid := .none

abbrev stage0_0 : Fin 1 → Memref sig .tc .vmem S24576x8192 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8192x11264 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x11264 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S24576x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S24576x5632 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S24576x8192 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S24576x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Proof.QuantCall.lean ====
/- The quantisation of the input (the first of the two calls), on any contents `V` of the buffers it is entered
   with: what its body leaves in the two output windows, as functions of the block of rows it is given
   (`out0_1` the codes, `out0_2` the scales), and the body obligation of its pipeline. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.UnfoldOut
public import Idealize.ShloMosaic.Lib.WordCmp

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
section Regions
-- the TensorCore's buffer contents when a region is entered: the parameter every region's half is stated at, which
-- the run instantiates per region
variable (V : (c : Dev nD) → (b : Ref sig .tc) → Buf (Elt F) ((c : Thread nD τ).loc b))

/-! # REGION 0 of @main: custom_call 0, `cc0__quant_x_kernel` (pipeline 0), at the entry contents `V` -/

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

/-- The whole of a block of rows. -/
abbrev r0_0 : Rect S256x8192 := Rect.unit (s := S256x8192) ![0, 0] S256x8192.size inb_S256x8192_S256x8192_0_0
/-- The whole of a block of scales. -/
abbrev r0_1 : Rect S256x1 := Rect.unit (s := S256x1) ![0, 0] S256x1.size inb_S256x1_S256x1_0_0

/-! ## What the body leaves in each output window's buffer -/

/-! ### Values of the body that the stores' payloads, spelt out, would write more than once

    Each is a vector the body binds (often a part call's result), stated over the input windows' blocks and
    numbered on from the skeleton's payload functions (`k0_pay11` …, after `k0_pay10`), so that
    `out0_W` and the values after it name it instead of spelling it out; the comment after each is the printed
    function's name for the value. -/

/-- The rows' greatest magnitudes. -/
def k0_pay11 (x0 : Vec F S256x8192 .bf16) : FVec F S256x1 .f32 :=
  k0_pay4 (View.ld x0 r0_0) -- `v5`
/-- A piece of the exponent of a block of rows. -/
def k0_pay12 (x0 : Vec F S256x8192 .bf16) : FVec F S256x1 .f32 :=
  k0_pay5 (View.ld x0 r0_0) -- `v7`
/-- A piece of the exponent of a block of rows. -/
def k0_pay13 (x0 : Vec F S256x8192 .bf16) : IVec S256x1 32 :=
  k0_pay6 (View.ld x0 r0_0) -- `v43`

/-- Window 1's staging buffer after the body, from the input windows' blocks: its 1 store as pieces, LAST
    FIRST (Lib/Pipeline/FrameBody.lean `View.canon`; the payloads are the skeleton's and the values stated above). -/
def out0_1 (x0 : Vec F S256x8192 .bf16) : Vec F S256x8192 .fp8e4m3 :=
  View.canon [⟨r0_0, k0_pay2 (k0_pay3 (View.ld x0 r0_0)) (k0_pay7 (k0_pay11 x0) (k0_pay12 x0) (k0_pay13 x0))⟩]

/-- Its stores tile the buffer (checked by evaluation), so they cover it. -/
theorem cover0_1 (p0 : Vec F S256x8192 .fp8e4m3) (y : S256x8192.Idx) :
    ∃ pc ∈ ([⟨r0_0, p0⟩] : List (View.Piece (Elt F) S256x8192 .fp8e4m3)), y ∈ pc.1.set :=
  View.cover_of_tiled [⟨r0_0, p0⟩] S256x8192.size (by rfl) y

/-- Window 2's staging buffer after the body, from the input windows' blocks: its 1 store as pieces, LAST
    FIRST (Lib/Pipeline/FrameBody.lean `View.canon`; the payloads are the skeleton's and the values stated above). -/
def out0_2 (x0 : Vec F S256x8192 .bf16) : Vec F S256x1 .f32 :=
  View.canon [⟨r0_1, k0_pay1 (k0_pay9 (k0_pay11 x0) (k0_pay12 x0) (k0_pay13 x0)) (k0_pay10 (k0_pay11 x0) (k0_pay12 x0) (k0_pay13 x0))⟩]

/-- Its stores tile the buffer (checked by evaluation), so they cover it. -/
theorem cover0_2 (p0 : Vec F S256x1 .f32) (y : S256x1.Idx) :
    ∃ pc ∈ ([⟨r0_1, p0⟩] : List (View.Piece (Elt F) S256x1 .f32)), y ∈ pc.1.set :=
  View.cover_of_tiled [⟨r0_1, p0⟩] S256x1.size (by rfl) y

/-! ## The body's triple -/

set_option maxHeartbeats 1000000 in
/-- The kernel body on whole staging memrefs, the inputs' at read contents `xW` and the outputs' at anything, runs to
    the continuation holding the inputs' as they were and each output's at `out0_W` of the inputs': the printed functions
    are their skeletons (`Gen.*_eq_skeleton`), which `sl_exec` runs (Lib/Exec.lean), through every part call. -/
theorem sound_kernel0 (c : Dev nD) (E : Set ℕ) (i : grid0.Coords) (arg1 : Memref sig .tc .vmem S256x8192 .bf16) (harg1 : arg1.IsWhole) (arg2 : Memref sig .tc .vmem S256x8192 .fp8e4m3) (harg2 : arg2.IsWhole) (arg3 : Memref sig .tc .vmem S256x1 .f32) (harg3 : arg3.IsWhole)
    (x0 : Vec F S256x8192 .bf16) (K : PUnit → sProp 𝕄) :
    iprop(owns (c : Thread nD τ) arg1 fullShare x0 ∗ (∃ d, owns (c : Thread nD τ) arg2 fullShare d) ∗ (∃ d, owns (c : Thread nD τ) arg3 fullShare d)
        ∗ (iprop(owns (c : Thread nD τ) arg1 fullShare x0 ∗ owns (c : Thread nD τ) arg2 fullShare (out0_1 x0) ∗ owns (c : Thread nD τ) arg3 fullShare (out0_2 x0)) -∗ K ⟨⟩))
      ⊢ wp frame (wpE (defs₀ (F := F)) Variants.none c none) E (cc0__quant_x_kernel i arg1 harg1 arg2 harg2 arg3 harg3) K := by
  simp only [cc0__quant_x_kernel_eq_skeleton]; unfold cc0__quant_x_kernel_skel
  simp only [k0_part1_eq_skeleton, k0_part2_eq_skeleton]
  unfold owns
  iintro ⟨⟨%f0, %hf0, H0⟩, ⟨%d1, %f1, -, H1⟩, ⟨%d2, %f2, -, H2⟩, Hk⟩
  subst hf0
  sl_exec
  sl_step
  iapply Hk
  isplitl [H0]
  · iexists f0; isplitr; · ipureintro; rfl
    iexact H0
  isplitl [H1]
  · iexists _; isplitr
    swap; · iexact H1
    ipureintro
    refine (View.read_writes_eq_canon _ _ _ (cover0_1 _)).trans ?_
    rfl
  iexists _; isplitr
  swap; · iexact H2
  ipureintro
  refine (View.read_writes_eq_canon _ _ _ (cover0_2 _)).trans ?_
  rfl

/-! ## The pipeline's proof data -/

/-- The proof data of pipeline 0 on core `c`: the arrays as the region finds them (`V`); after the body at
    point `t` each input's buffer at its block and each output's at `out0_W` of the input blocks; the invariant the
    class's (Lib/Pipeline/Frame.lean `ΦA`: the scoped rest and the generator register, untouched); nothing owed;
    full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => out0_1 (iblk0 V c 0 t)
    | ⟨2, _⟩ => out0_2 (iblk0 V c 0 t)
  Φ _ := Pipeline.ΦA spec0 c
  q _ := fullShare
  owed _ := 0

/-- The proof data's arrays are the region-entry contents, by projecting the definition (`dsimp`): a region record cites
    this for its arrays rather than have Lean unfold `V`, the fold through @main up to the region's entry. -/
theorem A_eq0 (c : Dev nD) (w : Fin cfg0.W) : (dat0 V c).A w = V c (Pipeline.arrRef spec0 w) := by
  dsimp only [dat0]

/-- What the body leaves, window by window (the proof data's `match` reduced by `dsimp`, never `rfl`: Lib/Pipeline.lean `Dat`). -/
theorem after0_0 (c : Dev nD) (t : Fin cfg0.N) : (dat0 V c).after 0 t = iblk0 V c 0 t := by dsimp only [dat0]
/-- What window 1 holds after a step. -/
theorem after0_1 (c : Dev nD) (t : Fin cfg0.N) : (dat0 V c).after 1 t = out0_1 (iblk0 V c 0 t) := by dsimp only [dat0]
/-- What window 2 holds after a step. -/
theorem after0_2 (c : Dev nD) (t : Fin cfg0.N) : (dat0 V c).after 2 t = out0_2 (iblk0 V c 0 t) := by dsimp only [dat0]

/-- Each input's current staging buffer holds its block at every point, fetched there or not (`beforeK_W_of`). -/
theorem before0_0 (c : Dev nD) (t : Fin cfg0.N) (d) : (dat0 V c).before 0 t d = iblk0 V c 0 t :=
  before0_0_of V (dat0 V c) (A_eq0 V c 0) (after0_0 V c) t d

/-! ## The body obligation, at a generic point -/

/-- What the body is called with at point `t` (Lib/Pipeline.lean `BodyObligation`'s precondition, the windows one by one), -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' memrefs hold their blocks (`before0_W`), so `sound_kernel0` applies; the invariant and
    the core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ (grid0.coords t) _ _ _ _ _ _ (iblk0 V c 0 t) _)
  isplitl [H0]; · iexact H0
  isplitl [H1]; · iexists _; iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body table's row at point `t`'s slots is the body as `bodyAt0` spells it. -/
theorem defs₀_row0 (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl
end Regions

end Cert.KernelIdeal.Gen

end
-- ==== Proof.MainBody.lean ====
/- The body of the second call (the two products, the gate, the running maximum, and at the last step of a block of
   rows the quantisation), as two triples: at a step that is not the last of its block of rows it adds a slice to the
   scratch of products and extends the running maximum; at the last step it does the same and then writes both
   outputs from the two scratches. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.VecWindow
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's accesses -/

/-- The whole of an input block. -/
abbrev r1_0 : Rect S512x8192 := Rect.unit (s := S512x8192) ![0, 0] S512x8192.size inb_S512x8192_S512x8192_0_0
/-- The whole of an input block. -/
abbrev r1_1 : Rect S512x1 := Rect.unit (s := S512x1) ![0, 0] S512x1.size inb_S512x1_S512x1_0_0
/-- The whole of an input block. -/
abbrev r1_2 : Rect S8192x512 := Rect.unit (s := S8192x512) ![0, 0] S8192x512.size inb_S8192x512_S8192x512_0_0
/-- The whole of an input block. -/
abbrev r1_3 : Rect S1x512 := Rect.unit (s := S1x512) ![0, 0] S1x512.size inb_S1x512_S1x512_0_0
/-- The whole scratch of the running maximum. -/
abbrev rA : Rect S512x128 := Rect.unit (s := S512x128) ![0, 0] S512x128.size inb_S512x128_S512x128_0_0
/-- Column block 0 of the output block of codes. -/
abbrev rO0 : Rect S512x5632 := Rect.unit (s := S512x5632) ![0, 0] S512x512.size inb_S512x5632_S512x512_0_0
/-- Column block 1 of the output block of codes. -/
abbrev rO1 : Rect S512x5632 := Rect.unit (s := S512x5632) ![0, 512] S512x512.size inb_S512x5632_S512x512_0_512
/-- Column block 2 of the output block of codes. -/
abbrev rO2 : Rect S512x5632 := Rect.unit (s := S512x5632) ![0, 1024] S512x512.size inb_S512x5632_S512x512_0_1024
/-- Column block 3 of the output block of codes. -/
abbrev rO3 : Rect S512x5632 := Rect.unit (s := S512x5632) ![0, 1536] S512x512.size inb_S512x5632_S512x512_0_1536
/-- Column block 4 of the output block of codes. -/
abbrev rO4 : Rect S512x5632 := Rect.unit (s := S512x5632) ![0, 2048] S512x512.size inb_S512x5632_S512x512_0_2048
/-- Column block 5 of the output block of codes. -/
abbrev rO5 : Rect S512x5632 := Rect.unit (s := S512x5632) ![0, 2560] S512x512.size inb_S512x5632_S512x512_0_2560
/-- Column block 6 of the output block of codes. -/
abbrev rO6 : Rect S512x5632 := Rect.unit (s := S512x5632) ![0, 3072] S512x512.size inb_S512x5632_S512x512_0_3072
/-- Column block 7 of the output block of codes. -/
abbrev rO7 : Rect S512x5632 := Rect.unit (s := S512x5632) ![0, 3584] S512x512.size inb_S512x5632_S512x512_0_3584
/-- Column block 8 of the output block of codes. -/
abbrev rO8 : Rect S512x5632 := Rect.unit (s := S512x5632) ![0, 4096] S512x512.size inb_S512x5632_S512x512_0_4096
/-- Column block 9 of the output block of codes. -/
abbrev rO9 : Rect S512x5632 := Rect.unit (s := S512x5632) ![0, 4608] S512x512.size inb_S512x5632_S512x512_0_4608
/-- Column block 10 of the output block of codes. -/
abbrev rO10 : Rect S512x5632 := Rect.unit (s := S512x5632) ![0, 5120] S512x512.size inb_S512x5632_S512x512_0_5120
/-- Slice 0 of the scratch of products. -/
abbrev rH0 : Rect S11x512x512 := Rect.unit (s := S11x512x512) ![0, 0, 0] S1x512x512.size inb_S11x512x512_S1x512x512_0_0_0
/-- Slice 1 of the scratch of products. -/
abbrev rH1 : Rect S11x512x512 := Rect.unit (s := S11x512x512) ![1, 0, 0] S1x512x512.size inb_S11x512x512_S1x512x512_1_0_0
/-- Slice 2 of the scratch of products. -/
abbrev rH2 : Rect S11x512x512 := Rect.unit (s := S11x512x512) ![2, 0, 0] S1x512x512.size inb_S11x512x512_S1x512x512_2_0_0
/-- Slice 3 of the scratch of products. -/
abbrev rH3 : Rect S11x512x512 := Rect.unit (s := S11x512x512) ![3, 0, 0] S1x512x512.size inb_S11x512x512_S1x512x512_3_0_0
/-- Slice 4 of the scratch of products. -/
abbrev rH4 : Rect S11x512x512 := Rect.unit (s := S11x512x512) ![4, 0, 0] S1x512x512.size inb_S11x512x512_S1x512x512_4_0_0
/-- Slice 5 of the scratch of products. -/
abbrev rH5 : Rect S11x512x512 := Rect.unit (s := S11x512x512) ![5, 0, 0] S1x512x512.size inb_S11x512x512_S1x512x512_5_0_0
/-- Slice 6 of the scratch of products. -/
abbrev rH6 : Rect S11x512x512 := Rect.unit (s := S11x512x512) ![6, 0, 0] S1x512x512.size inb_S11x512x512_S1x512x512_6_0_0
/-- Slice 7 of the scratch of products. -/
abbrev rH7 : Rect S11x512x512 := Rect.unit (s := S11x512x512) ![7, 0, 0] S1x512x512.size inb_S11x512x512_S1x512x512_7_0_0
/-- Slice 8 of the scratch of products. -/
abbrev rH8 : Rect S11x512x512 := Rect.unit (s := S11x512x512) ![8, 0, 0] S1x512x512.size inb_S11x512x512_S1x512x512_8_0_0
/-- Slice 9 of the scratch of products. -/
abbrev rH9 : Rect S11x512x512 := Rect.unit (s := S11x512x512) ![9, 0, 0] S1x512x512.size inb_S11x512x512_S1x512x512_9_0_0
/-- Slice 10 of the scratch of products. -/
abbrev rH10 : Rect S11x512x512 := Rect.unit (s := S11x512x512) ![10, 0, 0] S1x512x512.size inb_S11x512x512_S1x512x512_10_0_0

/-! ## What the body computes -/

/-- The slice of gated products of one step, from its blocks of codes, scales, gate and up weights and their scales. -/
def hSlice (x0 : Vec F S512x8192 .fp8e4m3) (x1 : Vec F S512x1 .f32) (x2 : Vec F S8192x512 .fp8e4m3) (x3 : Vec F S8192x512 .fp8e4m3)
    (x4 : Vec F S1x512 .f32) (x5 : Vec F S1x512 .f32) : FVec F S1x512x512 .f32 :=
  k1_pay25 (View.ld x0 r1_0) (View.ld x1 r1_1) (View.ld x2 r1_2) (View.ld x3 r1_2) (View.ld x4 r1_3) (View.ld x5 r1_3)

/-- The running maximum after one step at grid point `i`, from the step's blocks and the running maximum before it. -/
def amaxNext (i : grid1.Coords) (x0 : Vec F S512x8192 .fp8e4m3) (x1 : Vec F S512x1 .f32) (x2 : Vec F S8192x512 .fp8e4m3) (x3 : Vec F S8192x512 .fp8e4m3)
    (x4 : Vec F S1x512 .f32) (x5 : Vec F S1x512 .f32) (d : Vec F S512x128 .f32) : FVec F S512x128 .f32 :=
  k1_pay1 (k1_pay26 (View.ld x0 r1_0) (View.ld x1 r1_1) (View.ld x2 r1_2) (View.ld x3 r1_2) (View.ld x4 r1_3) (View.ld x5 r1_3))
    (Scalar.cmpi .eq (BitVec.ofNat 32 (i 1).val) 0#32)
    (k1_pay27 (View.ld x0 r1_0) (View.ld x1 r1_1) (View.ld x2 r1_2) (View.ld x3 r1_2) (View.ld x4 r1_3) (View.ld x5 r1_3) (View.ld d rA))

/-- The exponent of each row's scale, from the running maximum of a whole block of rows. -/
def hExp (d : Vec F S512x128 .f32) : IVec S512x1 32 :=
  k1_pay9 (k1_pay5 d) (k1_pay6 d) (k1_pay7 d) (k1_pay8 d) 23#32

/-- What the last step leaves in the output window of the scales, from the running maximum `d`. -/
def out1_6 (d : Vec F S512x128 .f32) : Vec F S512x1 .f32 :=
  View.canon [⟨r1_1, k1_pay13 (k1_pay11 (k1_pay5 d) (k1_pay6 d) (k1_pay7 d) (k1_pay8 d) 23#32) (k1_pay12 (k1_pay5 d) (k1_pay6 d) (k1_pay7 d) (k1_pay8 d) 23#32)⟩]

/-- Its one store covers the window. -/
theorem cover1_6 (p0 : Vec F S512x1 .f32) (y : S512x1.Idx) :
    ∃ pc ∈ ([⟨r1_1, p0⟩] : List (View.Piece (Elt F) S512x1 .f32)), y ∈ pc.1.set :=
  View.cover_of_tiled [⟨r1_1, p0⟩] S512x1.size (by rfl) y

/-- What the last step leaves in the output window of the codes, from the scratch `h` of gated products and the
    running maximum `d`: eleven slices side by side. -/
def out1_7 (h : Vec F S11x512x512 .f32) (d : Vec F S512x128 .f32) : Vec F S512x5632 .fp8e4m3 :=
  View.canon [⟨rO10, k1_pay4 (k1_pay14 (F := F) (hExp d)) (View.ld h rH10)⟩,
    ⟨rO9, k1_pay3 (k1_pay14 (F := F) (hExp d)) (View.ld h rH9)⟩,
    ⟨rO8, k1_pay2 (k1_pay23 (k1_pay14 (F := F) (hExp d)) (View.ld h rH8)) (Scalar.ofBits .f32 0xC3E00000#32) (Scalar.ofBits .f32 0x43E00000#32)⟩,
    ⟨rO7, k1_pay22 (k1_pay14 (F := F) (hExp d)) (View.ld h rH7)⟩,
    ⟨rO6, k1_pay21 (k1_pay14 (F := F) (hExp d)) (View.ld h rH6)⟩,
    ⟨rO5, k1_pay20 (k1_pay14 (F := F) (hExp d)) (View.ld h rH5)⟩,
    ⟨rO4, k1_pay19 (k1_pay14 (F := F) (hExp d)) (View.ld h rH4)⟩,
    ⟨rO3, k1_pay18 (k1_pay14 (F := F) (hExp d)) (View.ld h rH3)⟩,
    ⟨rO2, k1_pay17 (k1_pay14 (F := F) (hExp d)) (View.ld h rH2)⟩,
    ⟨rO1, k1_pay16 (hExp d) (View.ld h rH1)⟩,
    ⟨rO0, k1_pay15 (hExp d) (View.ld h rH0)⟩]

/-- Its eleven stores tile the window. -/
theorem cover1_7 (p0 p1 p2 p3 p4 p5 p6 p7 p8 p9 p10 : Vec F S512x512 .fp8e4m3) (y : S512x5632.Idx) :
    ∃ pc ∈ ([⟨rO10, p10⟩, ⟨rO9, p9⟩, ⟨rO8, p8⟩, ⟨rO7, p7⟩, ⟨rO6, p6⟩, ⟨rO5, p5⟩, ⟨rO4, p4⟩, ⟨rO3, p3⟩, ⟨rO2, p2⟩, ⟨rO1, p1⟩, ⟨rO0, p0⟩] : List (View.Piece (Elt F) S512x5632 .fp8e4m3)), y ∈ pc.1.set :=
  View.cover_of_tiled [⟨rO10, p10⟩, ⟨rO9, p9⟩, ⟨rO8, p8⟩, ⟨rO7, p7⟩, ⟨rO6, p6⟩, ⟨rO5, p5⟩, ⟨rO4, p4⟩, ⟨rO3, p3⟩, ⟨rO2, p2⟩, ⟨rO1, p1⟩, ⟨rO0, p0⟩] S512x512.size (by rfl) y

set_option maxHeartbeats 2000000 in
/-- A step that is not the last of its block of rows: it adds its slice and extends the running maximum; the outputs are not touched. -/
theorem sound_mid (c : Dev nD) (E : Set ℕ) (i : grid1.Coords) (arg2 : Memref sig .tc .vmem S512x8192 .fp8e4m3) (harg2 : arg2.IsWhole) (arg3 : Memref sig .tc .vmem S512x1 .f32) (harg3 : arg3.IsWhole) (arg4 : Memref sig .tc .vmem S8192x512 .fp8e4m3) (harg4 : arg4.IsWhole) (arg5 : Memref sig .tc .vmem S8192x512 .fp8e4m3) (harg5 : arg5.IsWhole) (arg6 : Memref sig .tc .vmem S1x512 .f32) (harg6 : arg6.IsWhole) (arg7 : Memref sig .tc .vmem S1x512 .f32) (harg7 : arg7.IsWhole) (arg8 : Memref sig .tc .vmem S512x1 .f32) (harg8 : arg8.IsWhole) (arg9 : Memref sig .tc .vmem S512x5632 .fp8e4m3) (harg9 : arg9.IsWhole) (arg10 : Memref sig .tc .vmem S11x512x512 .f32) (harg10 : arg10.IsWhole) (arg11 : Memref sig .tc .vmem S512x128 .f32) (harg11 : arg11.IsWhole) (hc : ¬k1_cond1 i = 1#1)
    (x0 : Vec F S512x8192 .fp8e4m3) (x1 : Vec F S512x1 .f32) (x2 : Vec F S8192x512 .fp8e4m3) (x3 : Vec F S8192x512 .fp8e4m3) (x4 : Vec F S1x512 .f32) (x5 : Vec F S1x512 .f32) (d10 : Vec F S11x512x512 .f32) (d11 : Vec F S512x128 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5
        ∗ owns (c : Thread nD τ) arg10 fullShare d10 ∗ owns (c : Thread nD τ) arg11 fullShare d11
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5
              ∗ owns (c : Thread nD τ) arg10 fullShare (VecWindow.put d10 (k1_off1 i) S1x512x512.size (hSlice x0 x1 x2 x3 x4 x5))
              ∗ owns (c : Thread nD τ) arg11 fullShare (amaxNext i x0 x1 x2 x3 x4 x5 d11)) -∗ K ⟨⟩))
      ⊢ wp frame (wpE (defs₀ (F := F)) Variants.none c none) E (cc1__gate_up_kernel i arg2 harg2 arg3 harg3 arg4 harg4 arg5 harg5 arg6 harg6 arg7 harg7 arg8 harg8 arg9 harg9 arg10 harg10 arg11 harg11) K := by
  simp only [cc1__gate_up_kernel_eq_skeleton]; unfold cc1__gate_up_kernel_skel
  simp only [k1_part6_eq_skeleton, k1_part1_eq_skeleton, k1_part2_eq_skeleton, k1_part3_eq_skeleton, k1_part4_eq_skeleton, k1_part5_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f8, %hf8, H8⟩, ⟨%f9, %hf9, H9⟩, Hk⟩
  subst hf0 hf1 hf2 hf3 hf4 hf5 hf8 hf9
  sl_exec (disch := sl_exact hc)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H8]
  · iexists _; isplitr
    swap; · iexact H8
    ipureintro
    exact View.read_writes_cons_put _ _ _ _ [] rfl
  iexists _; isplitr
  swap; · iexact H9
  ipureintro
  exact View.read_writes_full _ _ _ _ []

set_option maxHeartbeats 2000000 in
/-- The last step of a block of rows: it adds its slice, extends the running maximum, and writes both outputs from them. -/
theorem sound_last (c : Dev nD) (E : Set ℕ) (i : grid1.Coords) (arg2 : Memref sig .tc .vmem S512x8192 .fp8e4m3) (harg2 : arg2.IsWhole) (arg3 : Memref sig .tc .vmem S512x1 .f32) (harg3 : arg3.IsWhole) (arg4 : Memref sig .tc .vmem S8192x512 .fp8e4m3) (harg4 : arg4.IsWhole) (arg5 : Memref sig .tc .vmem S8192x512 .fp8e4m3) (harg5 : arg5.IsWhole) (arg6 : Memref sig .tc .vmem S1x512 .f32) (harg6 : arg6.IsWhole) (arg7 : Memref sig .tc .vmem S1x512 .f32) (harg7 : arg7.IsWhole) (arg8 : Memref sig .tc .vmem S512x1 .f32) (harg8 : arg8.IsWhole) (arg9 : Memref sig .tc .vmem S512x5632 .fp8e4m3) (harg9 : arg9.IsWhole) (arg10 : Memref sig .tc .vmem S11x512x512 .f32) (harg10 : arg10.IsWhole) (arg11 : Memref sig .tc .vmem S512x128 .f32) (harg11 : arg11.IsWhole) (hc : k1_cond1 i = 1#1)
    (x0 : Vec F S512x8192 .fp8e4m3) (x1 : Vec F S512x1 .f32) (x2 : Vec F S8192x512 .fp8e4m3) (x3 : Vec F S8192x512 .fp8e4m3) (x4 : Vec F S1x512 .f32) (x5 : Vec F S1x512 .f32) (d10 : Vec F S11x512x512 .f32) (d11 : Vec F S512x128 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5
        ∗ (∃ d, owns (c : Thread nD τ) arg8 fullShare d) ∗ (∃ d, owns (c : Thread nD τ) arg9 fullShare d)
        ∗ owns (c : Thread nD τ) arg10 fullShare d10 ∗ owns (c : Thread nD τ) arg11 fullShare d11
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5
              ∗ owns (c : Thread nD τ) arg8 fullShare (out1_6 (amaxNext i x0 x1 x2 x3 x4 x5 d11))
              ∗ owns (c : Thread nD τ) arg9 fullShare (out1_7 (VecWindow.put d10 (k1_off1 i) S1x512x512.size (hSlice x0 x1 x2 x3 x4 x5)) (amaxNext i x0 x1 x2 x3 x4 x5 d11))
              ∗ owns (c : Thread nD τ) arg10 fullShare (VecWindow.put d10 (k1_off1 i) S1x512x512.size (hSlice x0 x1 x2 x3 x4 x5))
              ∗ owns (c : Thread nD τ) arg11 fullShare (amaxNext i x0 x1 x2 x3 x4 x5 d11)) -∗ K ⟨⟩))
      ⊢ wp frame (wpE (defs₀ (F := F)) Variants.none c none) E (cc1__gate_up_kernel i arg2 harg2 arg3 harg3 arg4 harg4 arg5 harg5 arg6 harg6 arg7 harg7 arg8 harg8 arg9 harg9 arg10 harg10 arg11 harg11) K := by
  simp only [cc1__gate_up_kernel_eq_skeleton]; unfold cc1__gate_up_kernel_skel
  simp only [k1_part6_eq_skeleton, k1_part1_eq_skeleton, k1_part2_eq_skeleton, k1_part3_eq_skeleton, k1_part4_eq_skeleton, k1_part5_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d8, %f6, -, H6⟩, ⟨%d9, %f7, -, H7⟩, ⟨%f8, %hf8, H8⟩, ⟨%f9, %hf9, H9⟩, Hk⟩
  subst hf0 hf1 hf2 hf3 hf4 hf5 hf8 hf9
  sl_exec (disch := sl_exact hc)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    refine (View.read_writes_eq_canon _ _ _ (cover1_6 _)).trans ?_
    have h45 : sound_last.sl.v45 c i arg2 arg3 arg4 arg5 arg6 arg7 arg11 f0 f1 f2 f3 f4 f5 f9 = amaxNext i (arg2.view.read (Elt F) f0) (arg3.view.read (Elt F) f1) (arg4.view.read (Elt F) f2) (arg5.view.read (Elt F) f3) (arg6.view.read (Elt F) f4) (arg7.view.read (Elt F) f5) (arg11.view.read (Elt F) f9) := View.readCov_full arg11.view _ _ _ []
    rw [← h45]; rfl
  isplitl [H7]
  · iexists _; isplitr
    swap; · iexact H7
    ipureintro
    refine (View.read_writes_eq_canon _ _ _ (cover1_7 _ _ _ _ _ _ _ _ _ _ _)).trans ?_
    have h45 : sound_last.sl.v45 c i arg2 arg3 arg4 arg5 arg6 arg7 arg11 f0 f1 f2 f3 f4 f5 f9 = amaxNext i (arg2.view.read (Elt F) f0) (arg3.view.read (Elt F) f1) (arg4.view.read (Elt F) f2) (arg5.view.read (Elt F) f3) (arg6.view.read (Elt F) f4) (arg7.view.read (Elt F) f5) (arg11.view.read (Elt F) f9) := View.readCov_full arg11.view _ _ _ []
    have h10 : arg10.view.read (Elt F) (arg10.view.writes (Elt F) f8 (sound_last.sl.H8_1 c i arg2 arg3 arg4 arg5 arg6 arg7 f0 f1 f2 f3 f4 f5)) = VecWindow.put (arg10.view.read (Elt F) f8) (k1_off1 i) S1x512x512.size (hSlice (arg2.view.read (Elt F) f0) (arg3.view.read (Elt F) f1) (arg4.view.read (Elt F) f2) (arg5.view.read (Elt F) f3) (arg6.view.read (Elt F) f4) (arg7.view.read (Elt F) f5)) := View.read_writes_cons_put _ _ _ _ [] rfl
    rw [← h45, ← h10]; rfl
  isplitl [H8]
  · iexists _; isplitr
    swap; · iexact H8
    ipureintro
    exact View.read_writes_cons_put _ _ _ _ [] rfl
  iexists _; isplitr
  swap; · iexact H9
  ipureintro
  exact View.read_writes_full _ _ _ _ []

end Cert.KernelIdeal.Gen

end
-- ==== Proof.MainCall.lean ====
/- The main call (the products, the gate, and the quantisation of its result), on any contents `V` of the buffers
   it is entered with. Between grid points two scratch buffers carry data: the last eleven slices of the gated
   product, and the running maximum of its absolute values. `Inv1` says what they hold before each point, `dat1` what
   the output windows hold when they are written back (at the last step of a block of rows), and `body_obligation1`
   is the pipeline's body obligation. -/
module

public import proofs.«01_k».proof.Proof.QuantCall
public import proofs.«01_k».proof.Proof.MainBody

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
section Regions
-- the TensorCore's buffer contents when a region is entered: the parameter every region's half is stated at, which
-- the run instantiates per region
variable (V : (c : Dev nD) → (b : Ref sig .tc) → Buf (Elt F) ((c : Thread nD τ).loc b))
/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-! ## What the scratch holds -/

/-- The step of a point within its block of rows. -/
theorem coord1 (t : Fin cfg1.N) : (grid1.coords t 1).val = t.val % 11 := by
  have e1 : (grid1.coords t 1).val = t.val / 1 % 11 := Pipeline.Grid.coords_val t 1 (by decide) rfl
  omega

/-- The outputs are written exactly at the last step of a block of rows. -/
theorem hcond1 : ∀ t : Fin cfg1.N, k1_cond1 (grid1.coords t) = 1#1 ↔ t.val % 11 = 10 := fun t => by
  have ht : t.val < 528 := Nat.lt_of_lt_of_eq t.isLt N_1
  have e1 : (grid1.coords t 1).val = t.val / 1 % 11 := Pipeline.Grid.coords_val t 1 (by decide) rfl
  simp only [k1_cond1, e1]
  word_cmp

/-- The slice of the gated product computed at point `t`. -/
def hSl (c : Dev nD) (t : Fin cfg1.N) : Vec F S1x512x512 .f32 :=
  hSlice (iblk1 V c 0 t) (iblk1 V c 1 t) (iblk1 V c 2 t) (iblk1 V c 3 t) (iblk1 V c 4 t) (iblk1 V c 5 t)

/-- The running maximum before point `n` (at the first step of a block of rows the old value is not used). -/
def amaxAt (c : Dev nD) : ℕ → Vec F S512x128 .f32
  | 0 => fun _ => FloatOps.ofBits .f32 0#32
  | n + 1 => if h : n < cfg1.N then amaxNext (grid1.coords ⟨n, h⟩) (iblk1 V c 0 ⟨n, h⟩) (iblk1 V c 1 ⟨n, h⟩) (iblk1 V c 2 ⟨n, h⟩) (iblk1 V c 3 ⟨n, h⟩) (iblk1 V c 4 ⟨n, h⟩) (iblk1 V c 5 ⟨n, h⟩) (amaxAt c n) else amaxAt c n

/-- The running maximum after one more step: the slice's own maximum at the first step of a block of rows, else the greater of it and the one before. -/
theorem amaxAt_succ (c : Dev nD) (t : Fin cfg1.N) :
    amaxAt V c (t.val + 1) = amaxNext (grid1.coords t) (iblk1 V c 0 t) (iblk1 V c 1 t) (iblk1 V c 2 t) (iblk1 V c 3 t) (iblk1 V c 4 t) (iblk1 V c 5 t) (amaxAt V c t.val) := by
  show (if h : t.val < cfg1.N then _ else _) = _
  rw [dif_pos t.isLt]

/-- The first step of a block of rows does not use the old maximum. -/
theorem amaxNext_first (i : grid1.Coords) (hi : (i 1).val = 0) (x0 : Vec F S512x8192 .fp8e4m3) (x1 : Vec F S512x1 .f32) (x2 : Vec F S8192x512 .fp8e4m3) (x3 : Vec F S8192x512 .fp8e4m3) (x4 : Vec F S1x512 .f32) (x5 : Vec F S1x512 .f32) (d d' : Vec F S512x128 .f32) :
    amaxNext i x0 x1 x2 x3 x4 x5 d = amaxNext i x0 x1 x2 x3 x4 x5 d' := by
  unfold amaxNext; rw [hi]; rfl

/-- An index of the scratch, within its slice. -/
def inSlice (y : S11x512x512.Idx) : S1x512x512.Idx := fun a =>
  match a with
  | ⟨0, _⟩ => ⟨0, Nat.one_pos⟩
  | ⟨1, _⟩ => ⟨(y 1).val, (y 1).isLt⟩
  | ⟨2, _⟩ => ⟨(y 2).val, (y 2).isLt⟩

/-- The whole gated product of the block of rows of point `t`: step `k`'s slice at index `k`. -/
def hAll (c : Dev nD) (t : Fin cfg1.N) : Vec F S11x512x512 .f32 := fun y =>
  hSl V c ⟨t.val - t.val % 11 + (y 0).val, by
      have h0 : (y 0).val < 11 := (y 0).isLt
      have ht : t.val < 528 := Nat.lt_of_lt_of_eq t.isLt N_1
      have hN : cfg1.N = 528 := N_1
      omega⟩
    (inSlice y)

/-- What the two scratch buffers hold before point `n`: the last eleven slices, each at its step's index, and the
    running maximum. -/
def Inv1 (c : Dev nD) (n : ℕ) (d10 : Vec F S11x512x512 .f32) (d11 : Vec F S512x128 .f32) : Prop :=
  (∀ (k : Fin cfg1.N), k.val < n → n ≤ k.val + 11 → ∀ y : S11x512x512.Idx, (y 0).val = k.val % 11 →
    d10 y = hSl V c k (inSlice y))
  ∧ (n ≠ 0 → d11 = amaxAt V c n)

/-- Reading the scratch of products after a slice has been written into it. -/
theorem put_slice (i : grid1.Coords) (d : Vec F S11x512x512 .f32) (w : Vec F S1x512x512 .f32) (y : S11x512x512.Idx) :
    VecWindow.put d (k1_off1 i) S1x512x512.size w y
      = if (y 0).val = (i 1).val then w (inSlice y) else d y := by
  have hoff := k1_off1_eq i
  have h1 : (y 1).val < 512 := (y 1).isLt
  have h2 : (y 2).val < 512 := (y 2).isLt
  have o0 : k1_off1 i 0 = (i 1).val := by rw [hoff]; rfl
  have o1 : k1_off1 i 1 = 0 := by rw [hoff]; rfl
  have o2 : k1_off1 i 2 = 0 := by rw [hoff]; rfl
  unfold VecWindow.put
  by_cases h : (y 0).val = (i 1).val
  · rw [if_pos h, dif_pos (show ∀ a, k1_off1 i a ≤ (y a).val ∧ (y a).val < k1_off1 i a + S1x512x512.size a from fun a => match a with
      | ⟨0, _⟩ => by show k1_off1 i 0 ≤ (y 0).val ∧ (y 0).val < k1_off1 i 0 + 1; omega
      | ⟨1, _⟩ => by show k1_off1 i 1 ≤ (y 1).val ∧ (y 1).val < k1_off1 i 1 + 512; omega
      | ⟨2, _⟩ => by show k1_off1 i 2 ≤ (y 2).val ∧ (y 2).val < k1_off1 i 2 + 512; omega)]
    refine congrArg w (funext fun a => Fin.ext ?_)
    match a with
    | ⟨0, _⟩ => show (y 0).val - k1_off1 i 0 = 0; omega
    | ⟨1, _⟩ => show (y 1).val - k1_off1 i 1 = (y 1).val; omega
    | ⟨2, _⟩ => show (y 2).val - k1_off1 i 2 = (y 2).val; omega
  · rw [if_neg h, dif_neg]
    intro hh
    have := hh 0
    have h' : k1_off1 i 0 ≤ (y 0).val ∧ (y 0).val < k1_off1 i 0 + 1 := this
    omega

/-- The maximum after point `t`, from any scratch contents that the invariant allows before it. -/
theorem amax_step (c : Dev nD) (t : Fin cfg1.N) (d10 : Vec F S11x512x512 .f32) (d11 : Vec F S512x128 .f32) (h : Inv1 V c t.val d10 d11) :
    amaxNext (grid1.coords t) (iblk1 V c 0 t) (iblk1 V c 1 t) (iblk1 V c 2 t) (iblk1 V c 3 t) (iblk1 V c 4 t) (iblk1 V c 5 t) d11 = amaxAt V c (t.val + 1) := by
  rw [amaxAt_succ]
  by_cases hz : t.val = 0
  · exact amaxNext_first _ (by rw [coord1, hz]) _ _ _ _ _ _ _ _
  · rw [h.2 hz]

/-- One step keeps the invariant. -/
theorem inv_step (c : Dev nD) (t : Fin cfg1.N) (d10 : Vec F S11x512x512 .f32) (d11 : Vec F S512x128 .f32) (h : Inv1 V c t.val d10 d11) :
    Inv1 V c (t.val + 1) (VecWindow.put d10 (k1_off1 (grid1.coords t)) S1x512x512.size (hSl V c t)) (amaxAt V c (t.val + 1)) := by
  refine ⟨fun k hk hk' y hy => ?_, fun _ => rfl⟩
  rw [put_slice, coord1]
  by_cases e : k.val = t.val
  · obtain rfl : k = t := Fin.ext e
    rw [if_pos hy]
  · rw [if_neg (by omega)]
    exact h.1 k (by omega) (by omega) y hy

/-- After the last step of a block of rows the scratch holds the block's whole product. -/
theorem inv_last (c : Dev nD) (t : Fin cfg1.N) (ht : t.val % 11 = 10) (d10 : Vec F S11x512x512 .f32) (d11 : Vec F S512x128 .f32) (h : Inv1 V c (t.val + 1) d10 d11) :
    d10 = hAll V c t := by
  funext y
  have h0 : (y 0).val < 11 := (y 0).isLt
  have ht' : t.val < 528 := Nat.lt_of_lt_of_eq t.isLt N_1
  have hN : cfg1.N = 528 := N_1
  exact h.1 ⟨t.val - t.val % 11 + (y 0).val, by omega⟩ (by show t.val - t.val % 11 + (y 0).val < _; omega) (by show _ ≤ t.val - t.val % 11 + (y 0).val + 11; omega) y (by show _ = (t.val - t.val % 11 + (y 0).val) % 11; omega)

/-- The two scratch buffers as memrefs. -/
abbrev scM1_0 := Memref.whole cc1_scratch0
/-- The scratch of the running maximum. -/
abbrev scM1_1 := Memref.whole cc1_scratch1

/-- The staging buffers of the first call, which this one does not touch. -/
def rest1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f))

/-- The region's invariant before point `n`. -/
def Phi1 (c : Dev nD) (n : ℕ) : sProp 𝕄 :=
  iprop(rest1 (F := F) c ∗ (∃ d10 d11, ⌜Inv1 V c n d10 d11⌝ ∗ owns (c : Thread nD τ) scM1_0 fullShare d10 ∗ owns (c : Thread nD τ) scM1_1 fullShare d11) ∗ (∃ r, prngReg c r))

/-- What the launch hands the region is the invariant before the first point. -/
theorem hin1 (c : Dev nD) : Pipeline.ΦA spec1 c ⊢ Phi1 V c 0 := by
  unfold Pipeline.ΦA Phi1 rest1; rw [scopedRest1_eq]
  simp only [scM1_0, scM1_1, owns_whole]
  iintro ⟨⟨HA, HB, HC, HD, HE, HF, ⟨%d10, H0⟩, ⟨%d11, H1⟩⟩, Hg⟩
  isplitl [HA HB HC HD HE HF]
  · isplitl [HA]; · iexact HA
    isplitl [HB]; · iexact HB
    isplitl [HC]; · iexact HC
    isplitl [HD]; · iexact HD
    isplitl [HE]; · iexact HE
    iexact HF
  isplitl [H0 H1]
  · iexists d10; iexists d11
    isplitr
    · ipureintro; exact ⟨fun k hk => absurd hk (Nat.not_lt_zero _), fun h => absurd rfl h⟩
    isplitl [H0]; · iexact H0
    iexact H1
  iexact Hg

/-- The invariant gives back what the launch handed over. -/
theorem hout1 (c : Dev nD) (n : ℕ) : Phi1 V c n ⊢ Pipeline.ΦA spec1 c := by
  unfold Pipeline.ΦA Phi1 rest1; rw [scopedRest1_eq]
  simp only [scM1_0, scM1_1, owns_whole]
  iintro ⟨⟨HA, HB, HC, HD, HE, HF⟩, ⟨%d10, %d11, -, H0, H1⟩, Hg⟩
  isplitl [HA HB HC HD HE HF H0 H1]
  · isplitl [HA]; · iexact HA
    isplitl [HB]; · iexact HB
    isplitl [HC]; · iexact HC
    isplitl [HD]; · iexact HD
    isplitl [HE]; · iexact HE
    isplitl [HF]; · iexact HF
    isplitl [H0]; · iexists d10; iexact H0
    iexists d11; iexact H1
  iexact Hg

/-! ## The pipeline's proof data -/

/-- The proof data of the second pipeline on core `c`: each input's buffer holds its block; the outputs, where they are
    written back, the scales and the codes of the block of rows' whole product. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => out1_6 (amaxAt V c (t.val + 1))
    | ⟨7, _⟩ => out1_7 (hAll V c t) (amaxAt V c (t.val + 1))
  Φ n := Phi1 V c n.val
  q w := Pipeline.shareOf spec1 w
  owed _ := 0

/-- The proof data's arrays are the region-entry contents, by projecting the definition (`dsimp`): a region record cites
    this for its arrays rather than have Lean unfold `V`, the fold through @main up to the region's entry. -/
theorem A_eq1 (c : Dev nD) (w : Fin cfg1.W) : (dat1 V c).A w = V c (Pipeline.arrRef spec1 w) := by
  dsimp only [dat1]

/-- What the body leaves, window by window (the proof data's `match` reduced by `dsimp`, never `rfl`: Lib/Pipeline.lean `Dat`). -/
theorem after1_0 (c : Dev nD) (t : Fin cfg1.N) : (dat1 V c).after 0 t = iblk1 V c 0 t := by dsimp only [dat1]
/-- What window 1 holds after a step. -/
theorem after1_1 (c : Dev nD) (t : Fin cfg1.N) : (dat1 V c).after 1 t = iblk1 V c 1 t := by dsimp only [dat1]
/-- What window 2 holds after a step. -/
theorem after1_2 (c : Dev nD) (t : Fin cfg1.N) : (dat1 V c).after 2 t = iblk1 V c 2 t := by dsimp only [dat1]
/-- What window 3 holds after a step. -/
theorem after1_3 (c : Dev nD) (t : Fin cfg1.N) : (dat1 V c).after 3 t = iblk1 V c 3 t := by dsimp only [dat1]
/-- What window 4 holds after a step. -/
theorem after1_4 (c : Dev nD) (t : Fin cfg1.N) : (dat1 V c).after 4 t = iblk1 V c 4 t := by dsimp only [dat1]
/-- What window 5 holds after a step. -/
theorem after1_5 (c : Dev nD) (t : Fin cfg1.N) : (dat1 V c).after 5 t = iblk1 V c 5 t := by dsimp only [dat1]
/-- What window 6 holds after a step. -/
theorem after1_6 (c : Dev nD) (t : Fin cfg1.N) : (dat1 V c).after 6 t = out1_6 (amaxAt V c (t.val + 1)):= by dsimp only [dat1]
/-- What window 7 holds after a step. -/
theorem after1_7 (c : Dev nD) (t : Fin cfg1.N) : (dat1 V c).after 7 t = out1_7 (hAll V c t) (amaxAt V c (t.val + 1)) := by dsimp only [dat1]

/-- Each input's current staging buffer holds its block at every point, fetched there or not (`beforeK_W_of`). -/
theorem before1_0 (c : Dev nD) (t : Fin cfg1.N) (d) : (dat1 V c).before 0 t d = iblk1 V c 0 t :=
  before1_0_of V (dat1 V c) (A_eq1 V c 0) (after1_0 V c) t d
/-- What window 1 holds before a step: its block of the array. -/
theorem before1_1 (c : Dev nD) (t : Fin cfg1.N) (d) : (dat1 V c).before 1 t d = iblk1 V c 1 t :=
  before1_1_of V (dat1 V c) (A_eq1 V c 1) (after1_1 V c) t d
/-- What window 2 holds before a step: its block of the array. -/
theorem before1_2 (c : Dev nD) (t : Fin cfg1.N) (d) : (dat1 V c).before 2 t d = iblk1 V c 2 t :=
  before1_2_of V (dat1 V c) (A_eq1 V c 2) (after1_2 V c) t d
/-- What window 3 holds before a step: its block of the array. -/
theorem before1_3 (c : Dev nD) (t : Fin cfg1.N) (d) : (dat1 V c).before 3 t d = iblk1 V c 3 t :=
  before1_3_of V (dat1 V c) (A_eq1 V c 3) (after1_3 V c) t d
/-- What window 4 holds before a step: its block of the array. -/
theorem before1_4 (c : Dev nD) (t : Fin cfg1.N) (d) : (dat1 V c).before 4 t d = iblk1 V c 4 t :=
  before1_4_of V (dat1 V c) (A_eq1 V c 4) (after1_4 V c) t d
/-- What window 5 holds before a step: its block of the array. -/
theorem before1_5 (c : Dev nD) (t : Fin cfg1.N) (d) : (dat1 V c).before 5 t d = iblk1 V c 5 t :=
  before1_5_of V (dat1 V c) (A_eq1 V c 5) (after1_5 V c) t d

/-! ## The body obligation, at a generic point -/

/-- What the body is called with at point `t` (Lib/Pipeline.lean `BodyObligation`'s precondition, the windows one by one), -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ (dat1 V c).leavesExact 6 t
    ∗ (dat1 V c).leavesExact 7 t)
/-- The body at any point: at a step that is not the last of its block of rows the outputs' buffers pass through; at
    the last they are written. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).Φ t.succ = Phi1 V c (t.val + 1) from rfl, show (dat1 V c).Φ t.castSucc = Phi1 V c t.val from rfl,
    show (dat1 V c).owesAt () t.succ = (dat1 V c).owesAt () t.castSucc from rfl,
    after1_0, after1_1, after1_2, after1_3, after1_4, after1_5]
  unfold Phi1
  iintro ⟨⟨HR, ⟨%d10, %d11, %hI, HS0, HS1⟩, Hg⟩, Ho, ⟨%d0, H0⟩, ⟨%d1, H1⟩, ⟨%d2, H2⟩, ⟨%d3, H3⟩, ⟨%d4, H4⟩, ⟨%d5, H5⟩, H6, H7⟩
  have hA := amax_step V c t d10 d11 hI
  have hI' := inv_step V c t d10 d11 hI
  by_cases hc : k1_cond1 (grid1.coords t) = 1#1
  · have i6 : cfg1.idle 6 (cfg1.grid.coords t) = false := by show (!(k1_cond1 (grid1.coords t) == 1#1)) = false; rw [hc]; rfl
    have i7 : cfg1.idle 7 (cfg1.grid.coords t) = false := by show (!(k1_cond1 (grid1.coords t) == 1#1)) = false; rw [hc]; rfl
    have hL := inv_last V c t ((hcond1 t).1 hc) _ _ hI'
    rw [show (dat1 V c).leavesExact 6 t = owns (c : Thread nD τ) (st1_6 t) fullShare ((dat1 V c).after 6 t) from by unfold Dat.leavesExact; rw [i6],
      show (dat1 V c).leavesExact 7 t = owns (c : Thread nD τ) (st1_7 t) fullShare ((dat1 V c).after 7 t) from by unfold Dat.leavesExact; rw [i7], after1_6, after1_7]
    iapply (sound_last c Set.univ (grid1.coords t) _ _ _ _ _ _ _ _ _ _ _ _ _ _ _ _ _ _ _ _ hc (iblk1 V c 0 t) (iblk1 V c 1 t) (iblk1 V c 2 t) (iblk1 V c 3 t) (iblk1 V c 4 t) (iblk1 V c 5 t) d10 d11 _)
    isplitl [H0]; · iexact H0
    isplitl [H1]; · iexact H1
    isplitl [H2]; · iexact H2
    isplitl [H3]; · iexact H3
    isplitl [H4]; · iexact H4
    isplitl [H5]; · iexact H5
    isplitl [H6]
    · icases H6 with ⟨%e6, H6⟩
      iexists _; iexact H6
    isplitl [H7]
    · icases H7 with ⟨%e7, H7⟩
      iexists _; iexact H7
    isplitl [HS0]; · iexact HS0
    isplitl [HS1]; · iexact HS1
    rw [hA, show hSlice (iblk1 V c 0 t) (iblk1 V c 1 t) (iblk1 V c 2 t) (iblk1 V c 3 t) (iblk1 V c 4 t) (iblk1 V c 5 t) = hSl V c t from rfl, hL]
    rw [hL] at hI'
    iintro ⟨H0, H1, H2, H3, H4, H5, H6, H7, HS0, HS1⟩
    isplitl [HR HS0 HS1 Hg]
    · isplitl [HR]; · iexact HR
      isplitl [HS0 HS1]
      · iexists _; iexists _
        isplitr
        · ipureintro; exact hI'
        isplitl [HS0]; · iexact HS0
        iexact HS1
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  · have i6 : cfg1.idle 6 (cfg1.grid.coords t) = true := by show (!(k1_cond1 (grid1.coords t) == 1#1)) = true; simp [hc]
    have i7 : cfg1.idle 7 (cfg1.grid.coords t) = true := by show (!(k1_cond1 (grid1.coords t) == 1#1)) = true; simp [hc]
    have f6 : (cfg1.win 6).flush t = false := by
      cases hf : (cfg1.win 6).flush t with
      | false => rfl
      | true => exact absurd ((hcond1 t).2 ((flush1_6 t).1 hf)) hc
    have f7 : (cfg1.win 7).flush t = false := by
      cases hf : (cfg1.win 7).flush t with
      | false => rfl
      | true => exact absurd ((hcond1 t).2 ((flush1_7 t).1 hf)) hc
    rw [Dat.leavesExact_idle (dat1 V c) 6 t i6 f6, Dat.leavesExact_idle (dat1 V c) 7 t i7 f7]
    iapply (sound_mid c Set.univ (grid1.coords t) _ _ _ _ _ _ _ _ _ _ _ _ _ _ _ _ _ _ _ _ hc (iblk1 V c 0 t) (iblk1 V c 1 t) (iblk1 V c 2 t) (iblk1 V c 3 t) (iblk1 V c 4 t) (iblk1 V c 5 t) d10 d11 _)
    isplitl [H0]; · iexact H0
    isplitl [H1]; · iexact H1
    isplitl [H2]; · iexact H2
    isplitl [H3]; · iexact H3
    isplitl [H4]; · iexact H4
    isplitl [H5]; · iexact H5
    isplitl [HS0]; · iexact HS0
    isplitl [HS1]; · iexact HS1
    rw [hA, show hSlice (iblk1 V c 0 t) (iblk1 V c 1 t) (iblk1 V c 2 t) (iblk1 V c 3 t) (iblk1 V c 4 t) (iblk1 V c 5 t) = hSl V c t from rfl]
    iintro ⟨H0, H1, H2, H3, H4, H5, HS0, HS1⟩
    isplitl [HR HS0 HS1 Hg]
    · isplitl [HR]; · iexact HR
      isplitl [HS0 HS1]
      · iexists _; iexists _
        isplitr
        · ipureintro; exact hI'
        isplitl [HS0]; · iexact HS0
        iexact HS1
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7

/-- The body table's row at point `t`'s slots is the body as `bodyAt1` spells it. -/
theorem defs₀_row1 (t : Fin cfg1.N) :
    defs₀ (F := F) .tc cfg1.body (cfg1.bodyArgs t (cfg1.slots t)) = bodyAt1 t := by
  unfold defs₀; rw [Defs.onTc_tc]

/-- The library's body obligation, at every point: the body's triple restated. -/
theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

end Regions

end Cert.KernelIdeal.Gen

end
-- ==== Proof.Run.lean ====
/- The whole run of the kernel, at any values: @main's four segments (a host reshape, the quantisation of the input, a
   host reshape, the main call) from the launch to the return. `run` says that it terminates, faults nowhere, and what
   every array holds at the end (`W4`); `frame` reads off that the arguments are unchanged. -/
module

public import proofs.«01_k».proof.Proof.MainCall

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! # THE RUN: @main's segments from the launch to the return (Lib/Pipeline/Regions.lean `θ_run_regions_kit`) -/

/-- @main's argument arrays, as TensorCore references: what the frame claim reads back. -/
abbrev argRefs : List (Ref sig .tc) := [main_arg0, main_arg1, main_arg2]

/-! ## The host stretches: none allocates a buffer, and each lists the references its operations write, in order,
    so that a reference absent from the list keeps its contents across the stretch (Lib/StableHlo/Run.lean
    `after_of_writes_sub`) -/

/-- No operation of `hostOps0` allocates a buffer. -/
theorem hostOps0_fresh : (hostOps0 : List (HloOp τ sig (Elt F))).Forall fun op => op.fresh = ∅ := by
  simp only [List.Forall]; repeat' constructor
/-- The reference each operation of `hostOps0` writes, in order. -/
abbrev hostOps0_W : List (Ref sig .tc) := [main_v0]
/-- The host reshape before call 0 writes only its own result. -/
theorem hostOps0_writes : (hostOps0 : List (HloOp τ sig (Elt F))).Forall fun op => op.writes ⊆ (hostOps0_W.map (Proc.devRef (τ := τ) .tc)).toFinset :=
  StableHlo.forall_writes_sub_of_map rfl
/-- `hostOps0` writes none of the argument arrays (checked: each argument against each reference it writes). -/
theorem hostOps0_args : ∀ a ∈ argRefs, a ∉ hostOps0_W := ListAll.forall_mem_of_all_decide (by decide +kernel)

/-- No operation of `hostOps1` allocates a buffer. -/
theorem hostOps1_fresh : (hostOps1 : List (HloOp τ sig (Elt F))).Forall fun op => op.fresh = ∅ := by
  simp only [List.Forall]; repeat' constructor
/-- The reference each operation of `hostOps1` writes, in order. -/
abbrev hostOps1_W : List (Ref sig .tc) := [main_v2]
/-- The host reshape before call 1 writes only its own result. -/
theorem hostOps1_writes : (hostOps1 : List (HloOp τ sig (Elt F))).Forall fun op => op.writes ⊆ (hostOps1_W.map (Proc.devRef (τ := τ) .tc)).toFinset :=
  StableHlo.forall_writes_sub_of_map rfl
/-- `hostOps1` writes none of the argument arrays (checked: each argument against each reference it writes). -/
theorem hostOps1_args : ∀ a ∈ argRefs, a ∉ hostOps1_W := ListAll.forall_mem_of_all_decide (by decide +kernel)

/-! ## The buffer contents at each segment boundary: a fold through @main, and what each item leaves unchanged -/

/-- Core `c`'s buffers at launch. -/
abbrev W0 : Dev nD → Valuation τ sig (Elt F) := fun c b => (s₀ m ρ).mem ((c : Dev nD), b)
/-- After segment 0 the arguments hold what they held at the start. -/
theorem W0_args (c : Dev nD) : ∀ a ∈ argRefs, W0 m ρ c (Proc.devRef .tc a) = m ((c : Thread nD τ).loc a) := fun _ _ => rfl
/-- After `hostOps0` (region 0's entry). -/
abbrev W1 : Dev nD → Valuation τ sig (Elt F) := fun c => StableHlo.after hostOps0 (W0 m ρ c)
/-- A reference `hostOps0` does not write keeps its contents across it. -/
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
/-- After segment 1 the arguments hold what they held at the start. -/
theorem W1_args (c : Dev nD) : ∀ a ∈ argRefs, W1 m ρ c (Proc.devRef .tc a) = m ((c : Thread nD τ).loc a) :=
  fun a ha => (W1_of m ρ c a (hostOps0_args a ha)).trans (W0_args m ρ c a ha)
/-- The same read at the TensorCore's references (what region 0's proof data take). -/
abbrev V1 : (c : Dev nD) → (b : Ref sig .tc) → Buf (Elt F) ((c : Thread nD τ).loc b) := fun c b => W1 m ρ c b
/-- At region 0's exit: its arrays at what the pipeline leaves (the inputs as entered, each output's write-backs
    folded: `Dat.arrAt … N`), every other buffer as entered (Lib/Pipeline/FrameSuffix.lean `withArrays`). -/
def W2 (c : Dev nD) : Valuation τ sig (Elt F) :=
  Pipeline.withArrays spec0 c (W1 m ρ c) fun w => (dat0 (V1 m ρ) c).arrAt w cfg0.N
/-- After segment 2 each of the call's arrays holds what its pipeline leaves there. -/
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
/-- Segment 2 leaves every other buffer as it was. -/
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- A reference that is none of region 0's OUTPUT arrays keeps its entry contents across it: an input window's
    array is never written back (`Dat.arrAt_in`, `A_eq0`); any other buffer is left as is. -/
theorem W2_of (c : Dev nD) (r : Ref sig .tc) (h : ∀ w : Fin cfg0.W, Pipeline.arrRef spec0 w = r → (cfg0.win w).isOut = false) :
    W2 m ρ c (Proc.devRef .tc r) = W1 m ρ c (Proc.devRef .tc r) := by
  by_cases hw : ∃ w : Fin cfg0.W, Pipeline.arrRef spec0 w = r
  · obtain ⟨w, rfl⟩ := hw
    exact (W2_arr m ρ c w).trans (((dat0 (V1 m ρ) c).arrAt_in w (h w rfl) _).trans (A_eq0 (V1 m ρ) c w))
  · exact W2_of_ne m ρ c r fun w e => hw ⟨w, e⟩
/-- Every argument among region 0's arrays is an input window's (checked: each argument against each window). -/
theorem argsIn0 : ∀ a ∈ argRefs, ∀ w : Fin cfg0.W, Pipeline.arrRef spec0 w = a → (cfg0.win w).isOut = false :=
  ListAll.forall_mem_of_all_decide (by decide +kernel)
/-- After segment 2 the arguments hold what they held at the start. -/
theorem W2_args (c : Dev nD) : ∀ a ∈ argRefs, W2 m ρ c (Proc.devRef .tc a) = m ((c : Thread nD τ).loc a) :=
  fun a ha => (W2_of m ρ c a (argsIn0 a ha)).trans (W1_args m ρ c a ha)
/-- The same read at the TensorCore's references (region 0's exit contents). -/
abbrev V2 : (c : Dev nD) → (b : Ref sig .tc) → Buf (Elt F) ((c : Thread nD τ).loc b) := fun c b => W2 m ρ c b
/-- At region 0's exit each of its arrays holds what the pipeline leaves (`hF0`) and every other buffer what it
    held at entry (`hrest0`): the two hypotheses of Lib/Pipeline/RegionsLoop.lean `unscopedBufs_of_arrays`. -/
theorem hF0 (c : Dev nD) (w : Fin cfg0.W) : (dat0 (V1 m ρ) c).arrAt w cfg0.N = V2 m ρ c (Pipeline.arrRef spec0 w) :=
  (W2_arr m ρ c w).symm
/-- Outside its own arrays, call 0 changes nothing. -/
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After `hostOps1` (region 1's entry). -/
abbrev W3 : Dev nD → Valuation τ sig (Elt F) := fun c => StableHlo.after hostOps1 (W2 m ρ c)
/-- A reference `hostOps1` does not write keeps its contents across it. -/
theorem W3_of (c : Dev nD) (r : Ref sig .tc) (h : r ∉ hostOps1_W) : W3 m ρ c (Proc.devRef .tc r) = W2 m ρ c (Proc.devRef .tc r) :=
  StableHlo.after_of_writes_sub hostOps1 _ hostOps1_writes h
/-- After segment 3 the arguments hold what they held at the start. -/
theorem W3_args (c : Dev nD) : ∀ a ∈ argRefs, W3 m ρ c (Proc.devRef .tc a) = m ((c : Thread nD τ).loc a) :=
  fun a ha => (W3_of m ρ c a (hostOps1_args a ha)).trans (W2_args m ρ c a ha)
/-- The same read at the TensorCore's references (what region 1's proof data take). -/
abbrev V3 : (c : Dev nD) → (b : Ref sig .tc) → Buf (Elt F) ((c : Thread nD τ).loc b) := fun c b => W3 m ρ c b
/-- At region 1's exit: its arrays at what the pipeline leaves (the inputs as entered, each output's write-backs
    folded: `Dat.arrAt … N`), every other buffer as entered (Lib/Pipeline/FrameSuffix.lean `withArrays`). -/
def W4 (c : Dev nD) : Valuation τ sig (Elt F) :=
  Pipeline.withArrays spec1 c (W3 m ρ c) fun w => (dat1 (V3 m ρ) c).arrAt w cfg1.N
/-- After segment 4 each of the call's arrays holds what its pipeline leaves there. -/
theorem W4_arr (c : Dev nD) (w : Fin cfg1.W) :
    W4 m ρ c (Proc.devRef .tc (Pipeline.arrRef spec1 w)) = (dat1 (V3 m ρ) c).arrAt w cfg1.N := by
  unfold W4; exact (dat1 (V3 m ρ) c).withArrays_arrAt launch₀1.sharedIn _ (A_eq1 (V3 m ρ) c) w
/-- Segment 4 leaves every other buffer as it was. -/
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- A reference that is none of region 1's OUTPUT arrays keeps its entry contents across it: an input window's
    array is never written back (`Dat.arrAt_in`, `A_eq1`); any other buffer is left as is. -/
theorem W4_of (c : Dev nD) (r : Ref sig .tc) (h : ∀ w : Fin cfg1.W, Pipeline.arrRef spec1 w = r → (cfg1.win w).isOut = false) :
    W4 m ρ c (Proc.devRef .tc r) = W3 m ρ c (Proc.devRef .tc r) := by
  by_cases hw : ∃ w : Fin cfg1.W, Pipeline.arrRef spec1 w = r
  · obtain ⟨w, rfl⟩ := hw
    exact (W4_arr m ρ c w).trans (((dat1 (V3 m ρ) c).arrAt_in w (h w rfl) _).trans (A_eq1 (V3 m ρ) c w))
  · exact W4_of_ne m ρ c r fun w e => hw ⟨w, e⟩
/-- Every argument among region 1's arrays is an input window's (checked: each argument against each window). -/
theorem argsIn1 : ∀ a ∈ argRefs, ∀ w : Fin cfg1.W, Pipeline.arrRef spec1 w = a → (cfg1.win w).isOut = false :=
  ListAll.forall_mem_of_all_decide (by decide +kernel)
/-- After segment 4 the arguments hold what they held at the start. -/
theorem W4_args (c : Dev nD) : ∀ a ∈ argRefs, W4 m ρ c (Proc.devRef .tc a) = m ((c : Thread nD τ).loc a) :=
  fun a ha => (W4_of m ρ c a (argsIn1 a ha)).trans (W3_args m ρ c a ha)
/-- The same read at the TensorCore's references (region 1's exit contents). -/
abbrev V4 : (c : Dev nD) → (b : Ref sig .tc) → Buf (Elt F) ((c : Thread nD τ).loc b) := fun c b => W4 m ρ c b
/-- At region 1's exit each of its arrays holds what the pipeline leaves (`hF1`) and every other buffer what it
    held at entry (`hrest1`): the two hypotheses of Lib/Pipeline/RegionsLoop.lean `unscopedBufs_of_arrays_shared`. -/
theorem hF1 (c : Dev nD) (w : Fin cfg1.W) : (dat1 (V3 m ρ) c).arrAt w cfg1.N = V4 m ρ c (Pipeline.arrRef spec1 w) :=
  (W4_arr m ρ c w).symm
/-- Outside its own arrays, call 1 changes nothing. -/
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-! ### The arguments end as launched: no host stretch writes one and no region may change one (a region reads it
    through an input window or bypasses it) -/

/-- At the end, argument 0 is unchanged. -/
theorem W4_main_arg0 (c : Dev nD) : W4 m ρ c (Proc.devRef .tc main_arg0) = m ((c : Thread nD τ).loc main_arg0) :=
  W4_args m ρ c main_arg0 (by decide)
/-- At the end, argument 1 is unchanged. -/
theorem W4_main_arg1 (c : Dev nD) : W4 m ρ c (Proc.devRef .tc main_arg1) = m ((c : Thread nD τ).loc main_arg1) :=
  W4_args m ρ c main_arg1 (by decide)
/-- At the end, argument 2 is unchanged. -/
theorem W4_main_arg2 (c : Dev nD) : W4 m ρ c (Proc.devRef .tc main_arg2) = m ((c : Thread nD τ).loc main_arg2) :=
  W4_args m ρ c main_arg2 (by decide)

/-! ## The proof data family and the thread state -/

/-- The prefetched tables' admissible contents: no pipeline has a table. -/
abbrev adm : (p : Fin 2) → (pcfgs (F := F) p).Adm := fun p => (cfgs p).toPCfg_adm
/-- Every pipeline's proof data, each at its region's entry contents — a literal `match`, so that the kit's
    `Pipeline.pin pcfgs adm p` at a numeral reduces to the printed configuration. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
/-- No variants: no loop needs one. -/
abbrev 𝒱₀ : Variants := Variants.none
/-- No core owes another anything: no level is assigned. -/
abbrev L : GSem nD τ sig → Finset Unit := fun _ => ∅
/-- Every semaphore has level 0. -/
abbrev lv : GSem nD τ sig → Unit → ℕ := fun _ _ => 0
/-- What rides beside the buffers through every segment: the core's generator register at some state (the class-A
    invariant takes it in and gives it back) and its `owes`, at nothing. -/
abbrev R (c : Dev nD) : sProp 𝕄 := iprop((∃ r, prngReg c r) ∗ ∃ W, owes (c : Thread nD τ) (0 : CellTallies nD τ sig Unit) W)
/-- A host stretch as a segment: `HostSeg.ofOps` over the unscoped references from the contents `W`, `R` riding along
    (its `post` is then those references at `StableHlo.after ops (W c)`: the next boundary's contents by name). -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes` (the kit's chain ends at it BESIDE the core owing nothing): every unscoped
    buffer at the last boundary's contents `W4`, the generator register at some state. -/
abbrev Tₙ (c : Dev nD) : sProp 𝕄 := iprop(StableHlo.held (c : Thread nD τ) (Pipeline.ucRefs τ sig) (W4 m ρ c) ∗ ∃ r, prngReg c r)

/-! ## The regions as segments -/

-- `iapply` of a library lemma stated over `pin pcs a p` unifies with the pinned configuration only when unification may
-- unfold plain definitions in a metavariable's type
set_option backward.isDefEq.respectTransparency.types false in
/-- REGION 0 (custom_call 0) over the thread state: entered from every unscoped buffer at `W1`, left at `W2`
    (what the next segment is entered from). Its arrays split out of the unscoped buffers
    (`arrays_of_unscopedBufs`) and put back at the exit contents (`unscopedBufs_of_arrays`); the generator register into the
    class invariant `ΦA` and out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) (A_eq0 (V1 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- REGION 1 (custom_call 1) over the thread state: entered from every unscoped buffer at `W3`, left at `W4`
    (what the launch reads at the end). Its arrays split out of the unscoped buffers
    (`arrays_of_unscopedBufs_shared`) and put back at the exit contents (`unscopedBufs_of_arrays_shared`; its input windows on one array (`launch₀1.sharedIn`) each dealt their share of it, `Pipeline.shareOf`, by the proof data); the generator register into the
    class invariant `ΦA` and out; nothing owed; no semaphore of the kernel's own. -/
def reg1 : Pipeline.RegionSeg (pcfgs (F := F)) adm (pdats m ρ) () defs₀ 𝒱₀ L lv 1 where
  win := launch₀1.win
  block_pos := launch₀1.block_pos
  stage_whole := launch₀1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs_shared (p := 1) (pcfgs (F := F)) adm (pdats m ρ) launch₀1.win launch₀1.sharedIn launch₀1.arr_whole c
      (fun _ _ => rfl) (V3 m ρ c) (A_eq1 (V3 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Phi1 (V3 m ρ) c 0 from rfl]
    have h := hin1 (V3 m ρ) c
    unfold Pipeline.ΦA at h
    iintro ⟨Hp, -, Hr⟩
    iapply h
    isplitl [Hr]; · iexact Hr
    iexact Hp
  hout c := by
    rw [Pipeline.ownSems0_none, show (pdats m ρ 1 c).Φ (Fin.last _) = Phi1 (V3 m ρ) c cfg1.N from rfl]
    have h := hout1 (V3 m ρ) c cfg1.N
    unfold Pipeline.ΦA at h
    iintro H
    ihave H := h $$ H
    icases H with ⟨Hr, Hp⟩
    isplitl [Hp]; · iexact Hp
    isplitr; · iempintro
    iexact Hr
  hexit c := by
    have hjoin := Pipeline.unscopedBufs_of_arrays_shared (p := 1) (pcfgs (F := F)) adm (Ix := Unit) (Name := ℕ) (U := UR sig nD τ) (Lvl := ℕ)
      launch₀1.win launch₀1.sharedIn launch₀1.arr_whole c (pdats m ρ) (fun _ _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's 4 segments in order: a host segment per stretch from its boundary's contents, a region per pallas_call. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ) ]
/-- @main IS the run of the segments: `Gen.main_chain`, then the segments' run against that chain by the kernel's
    definitional check (`chain_rfl`). -/
theorem main_run (c : Dev nD) : main (F := F) c = Pipeline.Seg.run (segs m ρ) := (main_chain c).trans (by chain_rfl)

/-- The TensorCore has no unscoped semaphore. -/
theorem no_unscoped : ∀ sm : SemLoc sig, sm.isScoped .tc = true := by decide

-- `θ_run_regions_kit_sems`'s implicit arguments are found by unifying its conclusion with this one, which takes unfolding
-- plain definitions in a metavariable's type
set_option backward.isDefEq.respectTransparency.types false in
/-- The run: from any memory with zero counters every weakly fair execution of @main on the TensorCores terminates,
    nothing faulting, and every final state has every array at `W4` and every semaphore counter at zero. -/
theorem run : θ_run defs (onTc (τ := τ) (main (F := F))) ⟨m, fun _ => 0, ρ⟩ (fun r => (∀ c : Dev nD, ∀ b ∈ Pipeline.ucRefs τ sig,
      r.2.mem (((c : Thread nD τ)).1, b) = W4 m ρ c b)
      ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h hz => ⟨h, funext fun g => hz g (.inr (no_unscoped g.2))⟩)

/-- The frame: the run terminates without fault, leaves the arguments unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun r h => ⟨fun c =>
      ⟨(h.1 c _ (mem_uc main_arg0 (by decide))).trans (W4_main_arg0 m ρ c),
       (h.1 c _ (mem_uc main_arg1 (by decide))).trans (W4_main_arg1 m ρ c),
       (h.1 c _ (mem_uc main_arg2 (by decide))).trans (W4_main_arg2 m ρ c)⟩, h.2⟩) (run m ρ)

/-- The final values: the arguments as launched, and the four results at what the pipelines leave in their arrays. -/
theorem run_values : θ_run defs (onTc (τ := τ) (main (F := F))) ⟨m, fun _ => 0, ρ⟩ (fun r => ∀ c : Dev nD,
      r.2.mem ((c.tc : Thread nD τ).loc main_v3_0) = (dat1 (V3 m ρ) c).arrAt 6 cfg1.N
      ∧ r.2.mem ((c.tc : Thread nD τ).loc main_v3_1) = (dat1 (V3 m ρ) c).arrAt 7 cfg1.N
      ∧ r.2.mem ((c.tc : Thread nD τ).loc main_v1_0) = (dat0 (V1 m ρ) c).arrAt 1 cfg0.N
      ∧ r.2.mem ((c.tc : Thread nD τ).loc main_v1_1) = (dat0 (V1 m ρ) c).arrAt 2 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
      ⟨(h.1 c _ (mem_uc main_v3_0 (by decide))).trans (W4_arr m ρ c 6),
       (h.1 c _ (mem_uc main_v3_1 (by decide))).trans (W4_arr m ρ c 7),
       (h.1 c _ (mem_uc main_v1_0 (by decide))).trans ((W4_of m ρ c main_v1_0 (by decide)).trans ((W3_of m ρ c main_v1_0 (by decide)).trans (W2_arr m ρ c 1))),
       (h.1 c _ (mem_uc main_v1_1 (by decide))).trans ((W4_of m ρ c main_v1_1 (by decide)).trans ((W3_of m ρ c main_v1_1 (by decide)).trans (W2_arr m ρ c 2))),
       (h.1 c _ (mem_uc main_arg0 (by decide))).trans (W4_main_arg0 m ρ c),
       (h.1 c _ (mem_uc main_arg1 (by decide))).trans (W4_main_arg1 m ρ c),
       (h.1 c _ (mem_uc main_arg2 (by decide))).trans (W4_main_arg2 m ρ c)⟩) (run m ρ)

end Cert.KernelIdeal.Gen

end
-- ==== Proof.Same.lean ====
/- The kernel's frame: the program at any values runs as its ideal counterpart does, so it ends without fault and leaves
   its arguments unchanged. -/
module

public import proofs.«01_k».proof.Proof.Gen.Kernel
public import proofs.«01_k».proof.Proof.Run
public import Idealize.ShloMosaic.Adequacy
public import Idealize.ShloMosaic.Init

@[expose] public section

noncomputable section

namespace Cert.Same

open Idealize.ShloMosaic Idealize.SL.Sem

variable {F : FTy → Type} [FloatOps F]

/-- The two programs have the same buffers. -/
theorem sig_eq : Cert.Kernel.sig = Cert.KernelIdeal.sig := rfl
/-- The two programs have the same cores. -/
theorem tau_eq : Cert.Kernel.τ = Cert.KernelIdeal.τ := rfl
/-- The two programs have the same devices. -/
theorem nD_eq : Cert.Kernel.nD = Cert.KernelIdeal.nD := rfl

local instance : Cert.Kernel.Facts := Cert.Kernel.Gen.facts
local instance : Cert.KernelIdeal.Facts := Cert.KernelIdeal.Gen.facts

set_option maxRecDepth 65536 in
set_option maxHeartbeats 2000000 in
/-- The first call's bodies are equal. -/
theorem k0_eq : @Cert.Kernel.cc0__quant_x_kernel F _ _ = @Cert.KernelIdeal.cc0__quant_x_kernel F _ _ := rfl
set_option maxRecDepth 65536 in
set_option maxHeartbeats 2000000 in
/-- The second call's bodies are equal. -/
theorem k1_eq : @Cert.Kernel.cc1__gate_up_kernel F _ _ = @Cert.KernelIdeal.cc1__gate_up_kernel F _ _ := rfl
set_option maxRecDepth 65536 in
set_option maxHeartbeats 2000000 in
/-- The pipelines are equal. -/
theorem pcfgs_eq : (fun p => Cert.Kernel.pcfgs (F := F) p) = (fun p => Cert.KernelIdeal.pcfgs (F := F) p) := rfl
set_option maxRecDepth 65536 in
set_option maxHeartbeats 2000000 in
/-- The host programs are equal. -/
theorem main_eq (c : Dev Cert.KernelIdeal.nD) : Cert.Kernel.main (F := F) c = Cert.KernelIdeal.main (F := F) c := rfl
set_option maxRecDepth 65536 in
set_option maxHeartbeats 2000000 in
/-- The bodies' definitions are equal. -/
theorem defs₀_eq : @Cert.Kernel.defs₀ F _ _ = @Cert.KernelIdeal.defs₀ F _ _ := by
  unfold Cert.Kernel.defs₀ Cert.KernelIdeal.defs₀
  refine congrArg Defs.onTc (funext fun l => funext fun a => ?_)
  match l, a with
  | 0, (t, s) => rfl
  | 1, (t, s) => rfl

set_option maxRecDepth 65536 in
set_option maxHeartbeats 2000000 in
/-- The programs' definitions are equal. -/
theorem defs_eq : @Cert.Kernel.defs F _ _ = @Cert.KernelIdeal.defs F _ _ := by
  unfold Cert.Kernel.defs Cert.KernelIdeal.defs
  exact congrArg (Pipeline.defs fun p => Cert.KernelIdeal.pcfgs (F := F) p) defs₀_eq

set_option maxRecDepth 65536 in
set_option maxHeartbeats 2000000 in
/-- The frame of the printed kernel: it terminates without fault, leaves its arguments unchanged and every semaphore
    counter at zero. -/
theorem frame (m : (ℓ : Loc Cert.Kernel.nD Cert.Kernel.τ Cert.Kernel.sig) → Buf (Elt F) ℓ) (ρ : Dev Cert.Kernel.nD → PrngReg) :
    θ_run Cert.Kernel.defs (onTc (τ := Cert.Kernel.τ) (Cert.Kernel.main (F := F))) ⟨m, fun _ => 0, ρ⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0) := by
  have h := Cert.KernelIdeal.Gen.frame (F := F) m ρ
  rw [← defs_eq] at h
  exact h

end Cert.Same

end
-- ==== Proof.Scale.lean ====
/- The power-of-two scale, on one extended real. The kernel finds a float's exponent bit by bit, from comparisons
   with powers of two, and builds `2 ^ e` and `2 ^ (-e)` as products of two floats given by their exponent fields.
   The reference takes `⌊log y / log 2⌋ + 1` and `exp2`. Here: the two exponents are one integer (`exists_exponent`),
   and so the two scales, and the two inverse scales, are equal (`scale_eq`, `invScale_eq`). -/
module

public import Idealize.ShloMosaic.PureOps.Ideal
public import Mathlib.Analysis.SpecialFunctions.Log.Basic

@[expose] public section

noncomputable section

namespace Cert.Quant

open Idealize.ShloMosaic

/-! ## The kernel's side -/

/-- The float whose exponent field is `c` (and whose sign and fraction are zero). -/
def powOf (c : BitVec 32) : EReal := Ideal.ofBits .f32 (IntOp.shli .vector c 23#32)

/-- One step of the search: bit `b` is added to the field `f` if `y` is at least the float of the field `f + b`. -/
def step (y : EReal) (f b : BitVec 32) : BitVec 32 :=
  Scalar.select (Ideal.cmp .oge y (powOf (f + b))) (f + b) f

/-- The exponent field of `y`, from its eight bits. -/
def field (y : EReal) : BitVec 32 :=
  step y (step y (step y (step y (step y (step y (step y (step y 0#32 128#32) 64#32) 32#32) 16#32) 8#32) 4#32) 2#32) 1#32

/-- The kernel's exponent of a row whose greatest magnitude is `a`. -/
def kExp (a : EReal) : BitVec 32 :=
  Scalar.select (Ideal.cmp .oeq a (Ideal.ofBits .f32 0x00000000#32)) 0#32
    (Scalar.select
      (IntOp.andi (Ideal.cmp .oge (a * Ideal.ofBits .f32 0x3B124925#32) (Ideal.ofBits .f32 0x00800000#32))
        (Ideal.cmp .ole (a * Ideal.ofBits .f32 0x3B124925#32) (Ideal.ofBits .f32 0x7F7FFFFF#32)))
      (field (a * Ideal.ofBits .f32 0x3B124925#32) - 126#32) 0#32)

/-- The kernel's power of two: the product of two floats given by their exponent fields. -/
def kPow (e : BitVec 32) : EReal :=
  powOf (IntOp.shrsi .vector e 1#32 + 127#32) * powOf (e - IntOp.shrsi .vector e 1#32 + 127#32)

/-! ## The reference's side -/

/-- The reference's exponent of a row whose greatest magnitude is `a`. -/
def rExp (a : EReal) : EReal :=
  Scalar.select (Ideal.cmp .oeq a (Ideal.ofBits .f32 0x00000000#32)) (Ideal.ofBits .f32 0x00000000#32)
    (Scalar.select
      (IntOp.andi (Ideal.cmp .oge (a * Ideal.ofBits .f32 0x3B124925#32) (Ideal.ofBits .f32 0x00800000#32))
        (Ideal.cmp .ole (a * Ideal.ofBits .f32 0x3B124925#32) (Ideal.ofBits .f32 0x7F7FFFFF#32)))
      (Ideal.liftRound Int.floor
        (Ideal.div (Ideal.log (a * Ideal.ofBits .f32 0x3B124925#32)) ((Real.log 2 : ℝ) : EReal))
        + Ideal.ofBits .f32 0x3F800000#32) (Ideal.ofBits .f32 0x00000000#32))

/-! ## Floats of an exponent field -/

/-- The exponent field 0 is the float 0. -/
theorem powOf_zero : powOf (BitVec.ofNat 32 0) = 0 := by
  have h : IntOp.shli .vector (BitVec.ofNat 32 0) 23#32 = 0x00000000#32 := by decide
  unfold powOf; rw [h]; simp [Ideal.ofBits, Ideal.ieee]

/-- The exponent field 255 is infinity. -/
theorem powOf_top : powOf (BitVec.ofNat 32 255) = ⊤ := by
  have h : IntOp.shli .vector (BitVec.ofNat 32 255) 23#32 = 0x7F800000#32 := by decide
  unfold powOf; rw [h]; simp [Ideal.ofBits, Ideal.ieee]

set_option maxRecDepth 100000 in
/-- The arithmetic of exponent fields, on 32-bit words. -/
theorem word_facts : ∀ n : Fin 256,
    ((IntOp.shli .vector (BitVec.ofNat 32 n.val) 23#32).extractLsb' 31 1 == 1#1) = false
      ∧ ((IntOp.shli .vector (BitVec.ofNat 32 n.val) 23#32).extractLsb' 23 8).toNat = n.val
      ∧ ((IntOp.shli .vector (BitVec.ofNat 32 n.val) 23#32).extractLsb' 0 23).toNat = 0 := by
  decide +kernel

/-- The float of a field between 1 and 254 is the power of two of that field. -/
theorem powOf_normal (n : ℕ) (h1 : 1 ≤ n) (h2 : n ≤ 254) :
    powOf (BitVec.ofNat 32 n) = (((2 : ℝ) ^ ((n : ℤ) - 127) : ℝ) : EReal) := by
  obtain ⟨ha, hb, hc⟩ := word_facts ⟨n, by omega⟩
  dsimp only at ha hb hc
  unfold powOf Ideal.ofBits Ideal.ieee
  dsimp only
  rw [ha, hb, hc]
  rw [if_neg (by omega), if_neg (by omega), EReal.coe_eq_coe_iff]
  have h2 : (2 : ℝ) ≠ 0 := two_ne_zero
  have h3 : (n : ℤ) - (2 ^ (8 - 1) - 1) - ((23 : ℕ) : ℤ) = ((n : ℤ) - 127) - 23 := by norm_num
  rw [h3, zpow_sub₀ h2]
  norm_num
  ring

/-! ## The search -/

/-- The search on the numbers alone. -/
def stepN (k f b : ℕ) : ℕ := if f + b ≤ k then f + b else f

/-- The eight steps, from bit 128 down to bit 1, find any field below 256. -/
theorem stepN_all : ∀ k : Fin 256, stepN k (stepN k (stepN k (stepN k (stepN k (stepN k (stepN k (stepN k 0 128) 64) 32) 16) 8) 4) 2) 1 = k.val := by
  decide +kernel

/-- A step of the search, on words, is the same step on numbers. -/
theorem step_eq (y : EReal) (k : ℕ) (hy : ∀ n, n ≤ 255 → (powOf (BitVec.ofNat 32 n) ≤ y ↔ n ≤ k)) (f b : ℕ) (hfb : f + b ≤ 255) :
    step y (BitVec.ofNat 32 f) (BitVec.ofNat 32 b) = BitVec.ofNat 32 (stepN k f b) := by
  have hadd : BitVec.ofNat 32 f + BitVec.ofNat 32 b = BitVec.ofNat 32 (f + b) := by rw [BitVec.ofNat_add]
  unfold step stepN
  rw [hadd]
  by_cases h : f + b ≤ k
  · rw [if_pos h]
    simp [Ideal.cmp, Scalar.select, (hy _ hfb).2 h]
  · rw [if_neg h]
    have : ¬ powOf (BitVec.ofNat 32 (f + b)) ≤ y := fun h' => h ((hy _ hfb).1 h')
    simp [Ideal.cmp, Scalar.select, this]

/-- A step adds at most its bit. -/
theorem stepN_le (k f b : ℕ) : stepN k f b ≤ f + b := by unfold stepN; split <;> omega

/-- A `y` between two neighbouring powers of two: the search finds the lower one's field. -/
theorem field_eq (y : EReal) (k : ℕ) (hk : k ≤ 254) (hy : ∀ n, n ≤ 255 → (powOf (BitVec.ofNat 32 n) ≤ y ↔ n ≤ k)) :
    field y = BitVec.ofNat 32 k := by
  have hs := fun f b h => step_eq y k hy f b h
  have l1 := stepN_le k 0 128
  have l2 := stepN_le k (stepN k 0 128) 64
  have l3 := stepN_le k (stepN k (stepN k 0 128) 64) 32
  have l4 := stepN_le k (stepN k (stepN k (stepN k 0 128) 64) 32) 16
  have l5 := stepN_le k (stepN k (stepN k (stepN k (stepN k 0 128) 64) 32) 16) 8
  have l6 := stepN_le k (stepN k (stepN k (stepN k (stepN k (stepN k 0 128) 64) 32) 16) 8) 4
  have l7 := stepN_le k (stepN k (stepN k (stepN k (stepN k (stepN k (stepN k 0 128) 64) 32) 16) 8) 4) 2
  unfold field
  rw [hs 0 128 (by omega), hs _ 64 (by omega), hs _ 32 (by omega), hs _ 16 (by omega), hs _ 8 (by omega), hs _ 4 (by omega),
    hs _ 2 (by omega), hs _ 1 (by omega)]
  rw [show (k : ℕ) = (⟨k, by omega⟩ : Fin 256).val from rfl, stepN_all ⟨k, by omega⟩]

/-! ## The two powers of an exponent -/

set_option maxRecDepth 100000 in
/-- The two halves of an exponent, and of its negative, have valid fields. -/
theorem half_facts : ∀ k : Fin 255,
    IntOp.shrsi .vector (BitVec.ofNat 32 k.val - 126#32) 1#32 + 127#32 = BitVec.ofNat 32 ((k.val + 128) / 2)
      ∧ (BitVec.ofNat 32 k.val - 126#32) - IntOp.shrsi .vector (BitVec.ofNat 32 k.val - 126#32) 1#32 + 127#32
          = BitVec.ofNat 32 (k.val + 128 - (k.val + 128) / 2)
      ∧ IntOp.shrsi .vector (0#32 - (BitVec.ofNat 32 k.val - 126#32)) 1#32 + 127#32 = BitVec.ofNat 32 ((380 - k.val) / 2)
      ∧ (0#32 - (BitVec.ofNat 32 k.val - 126#32)) - IntOp.shrsi .vector (0#32 - (BitVec.ofNat 32 k.val - 126#32)) 1#32 + 127#32
          = BitVec.ofNat 32 (380 - k.val - (380 - k.val) / 2) := by
  decide +kernel

/-- The product of two powers of two given by their fields. -/
theorem pow_mul (a b : ℕ) (ha : 1 ≤ a) (ha' : a ≤ 254) (hb : 1 ≤ b) (hb' : b ≤ 254) :
    powOf (BitVec.ofNat 32 a) * powOf (BitVec.ofNat 32 b) = (((2 : ℝ) ^ ((a : ℤ) + b - 254) : ℝ) : EReal) := by
  rw [powOf_normal a ha ha', powOf_normal b hb hb', ← EReal.coe_mul, ← zpow_add₀ two_ne_zero]
  congr 2; ring

/-- The kernel's power of two, at the exponent itself. -/
theorem kPow_pos (k : ℕ) (h1 : 1 ≤ k) (h2 : k ≤ 254) :
    kPow (BitVec.ofNat 32 k - 126#32) = (((2 : ℝ) ^ ((k : ℤ) - 126) : ℝ) : EReal) := by
  obtain ⟨ha, hb, -, -⟩ := half_facts ⟨k, by omega⟩
  dsimp only at ha hb
  unfold kPow
  rw [ha, hb, pow_mul _ _ (by omega) (by omega) (by omega) (by omega)]
  congr 2; omega

/-- The kernel's power of two, at the negated exponent. -/
theorem kPow_neg (k : ℕ) (h1 : 1 ≤ k) (h2 : k ≤ 254) :
    kPow (0#32 - (BitVec.ofNat 32 k - 126#32)) = (((2 : ℝ) ^ (126 - (k : ℤ)) : ℝ) : EReal) := by
  obtain ⟨-, -, ha, hb⟩ := half_facts ⟨k, by omega⟩
  dsimp only at ha hb
  unfold kPow
  rw [ha, hb, pow_mul _ _ (by omega) (by omega) (by omega) (by omega)]
  congr 2; omega

/-! ## The two exponents -/

/-- The least normal float. -/
theorem tiny_eq : Ideal.ofBits .f32 0x00800000#32 = (((2 : ℝ) ^ (-126 : ℤ) : ℝ) : EReal) := by
  have h := powOf_normal 1 le_rfl (by norm_num)
  have h' : IntOp.shli .vector (BitVec.ofNat 32 1) 23#32 = 0x00800000#32 := by decide
  unfold powOf at h; rw [h'] at h; rw [h]; norm_num

/-- The greatest float is below 2 ^ 128. -/
theorem max_lt : Ideal.ofBits .f32 0x7F7FFFFF#32 < (((2 : ℝ) ^ (128 : ℤ) : ℝ) : EReal) := by
  simp [Ideal.ofBits, Ideal.ieee, -EReal.coe_mul]; norm_cast

/-- The constant 0. -/
theorem zero_eq : Ideal.ofBits .f32 0x00000000#32 = ((0 : ℝ) : EReal) := by simp [Ideal.ofBits, Ideal.ieee]

/-- The constant 1. -/
theorem one_eq : Ideal.ofBits .f32 0x3F800000#32 = ((1 : ℝ) : EReal) := by
  have h := powOf_normal 127 (by norm_num) (by norm_num)
  have h' : IntOp.shli .vector (BitVec.ofNat 32 127) 23#32 = 0x3F800000#32 := by decide
  unfold powOf at h; rw [h'] at h; rw [h]; norm_num

/-- A power of two is at most `r` when its exponent is at most the floor of `r`'s logarithm. -/
theorem two_zpow_le_iff (r : ℝ) (hr : 0 < r) (z : ℤ) : (2 : ℝ) ^ z ≤ r ↔ z ≤ ⌊Real.log r / Real.log 2⌋ := by
  rw [Int.le_floor, le_div_iff₀ (Real.log_pos (by norm_num)), ← Real.log_zpow,
    Real.log_le_log_iff (by positivity) hr]

/-- Of a `y` in the normal range, the field found by the search and the reference's floor of the logarithm. -/
theorem normal_exponent (y : EReal) (h1 : Ideal.ofBits .f32 0x00800000#32 ≤ y) (h2 : y ≤ Ideal.ofBits .f32 0x7F7FFFFF#32) :
    ∃ k : ℕ, 1 ≤ k ∧ k ≤ 254 ∧ field y = BitVec.ofNat 32 k
      ∧ Ideal.liftRound Int.floor (Ideal.div (Ideal.log y) ((Real.log 2 : ℝ) : EReal)) + Ideal.ofBits .f32 0x3F800000#32
          = (((k : ℝ) - 126 : ℝ) : EReal) := by
  rw [tiny_eq] at h1
  have h3 := lt_of_le_of_lt h2 max_lt
  induction y with
  | bot => exact absurd h1 (by simp)
  | top => exact absurd h3 (by simp)
  | coe r =>
    rw [EReal.coe_le_coe_iff] at h1
    rw [EReal.coe_lt_coe_iff] at h3
    have hr : 0 < r := lt_of_lt_of_le (by positivity) h1
    have l1 := (two_zpow_le_iff r hr (-126)).1 h1
    have l2 : ⌊Real.log r / Real.log 2⌋ < 128 := by
      by_contra h
      exact absurd ((two_zpow_le_iff r hr 128).2 (by omega)) (not_le.2 h3)
    obtain ⟨k, hk⟩ : ∃ k : ℕ, (k : ℤ) = ⌊Real.log r / Real.log 2⌋ + 127 := ⟨(⌊Real.log r / Real.log 2⌋ + 127).toNat, by omega⟩
    refine ⟨k, by omega, by omega, field_eq _ k (by omega) ?_, ?_⟩
    · intro n hn
      rcases Nat.eq_zero_or_pos n with h0 | h0
      · subst h0; rw [powOf_zero]
        exact ⟨fun _ => Nat.zero_le _, fun _ => by exact_mod_cast hr.le⟩
      rcases Nat.lt_or_ge n 255 with h255 | h255
      · rw [powOf_normal n h0 (by omega), EReal.coe_le_coe_iff, two_zpow_le_iff r hr]
        omega
      · obtain rfl : n = 255 := by omega
        rw [powOf_top]
        exact ⟨fun h => absurd h (by simp), fun h => absurd h (by omega)⟩
    · have hl : Ideal.log (r : EReal) = ((Real.log r : ℝ) : EReal) := by
        show (if r ≤ 0 then (⊥ : EReal) else _) = _
        rw [if_neg (not_le.2 hr)]
      have hd : Ideal.div ((Real.log r : ℝ) : EReal) ((Real.log 2 : ℝ) : EReal) = ((Real.log r / Real.log 2 : ℝ) : EReal) := by
        unfold Ideal.div
        have h2 : Real.log 2 ≠ 0 := (Real.log_pos (by norm_num)).ne'
        rw [if_neg (by exact_mod_cast h2), ← EReal.coe_inv, ← EReal.coe_mul, div_eq_mul_inv]
      rw [hl, hd, one_eq]
      show (((⌊Real.log r / Real.log 2⌋ : ℤ) : ℝ) : EReal) + _ = _
      rw [← EReal.coe_add]
      congr 1
      have : ((k : ℤ) : ℝ) = ((⌊Real.log r / Real.log 2⌋ + 127 : ℤ) : ℝ) := by rw [hk]
      push_cast at this ⊢
      rw [this]; ring

/-- A true condition takes the first. -/
theorem select_one {α : Type} (a b : α) : Scalar.select 1#1 a b = a := rfl
/-- A false condition takes the second. -/
theorem select_zero {α : Type} (a b : α) : Scalar.select 0#1 a b = b := rfl

/-- The kernel's exponent and the reference's are one integer, between -125 and 128. -/
theorem exists_exponent (a : EReal) : ∃ k : ℕ, 1 ≤ k ∧ k ≤ 254 ∧ kExp a = BitVec.ofNat 32 k - 126#32
    ∧ rExp a = (((k : ℝ) - 126 : ℝ) : EReal) := by
  have triv : (0#32 : BitVec 32) = BitVec.ofNat 32 126 - 126#32 := by decide
  have triv' : Ideal.ofBits .f32 0x00000000#32 = (((126 : ℕ) : ℝ) - 126 : ℝ) := by rw [zero_eq]; norm_num
  unfold kExp rExp
  by_cases h0 : a = Ideal.ofBits .f32 0x00000000#32
  · have : Ideal.cmp .oeq a (Ideal.ofBits .f32 0x00000000#32) = 1#1 := by simp [Ideal.cmp, h0]
    rw [this, select_one, select_one]
    exact ⟨126, by norm_num, by norm_num, triv, triv'⟩
  · have : Ideal.cmp .oeq a (Ideal.ofBits .f32 0x00000000#32) = 0#1 := by simp [Ideal.cmp, h0]
    rw [this, select_zero, select_zero]
    generalize a * Ideal.ofBits .f32 0x3B124925#32 = y
    by_cases h1 : Ideal.ofBits .f32 0x00800000#32 ≤ y
    · by_cases h2 : y ≤ Ideal.ofBits .f32 0x7F7FFFFF#32
      · have : IntOp.andi (Ideal.cmp .oge y (Ideal.ofBits .f32 0x00800000#32)) (Ideal.cmp .ole y (Ideal.ofBits .f32 0x7F7FFFFF#32)) = 1#1 := by
          simp [Ideal.cmp, IntOp.andi, h1, h2]
        rw [this, select_one, select_one]
        obtain ⟨k, hk1, hk2, hf, he⟩ := normal_exponent y h1 h2
        exact ⟨k, hk1, hk2, by rw [hf], he⟩
      · have : IntOp.andi (Ideal.cmp .oge y (Ideal.ofBits .f32 0x00800000#32)) (Ideal.cmp .ole y (Ideal.ofBits .f32 0x7F7FFFFF#32)) = 0#1 := by
          simp [Ideal.cmp, IntOp.andi, h2]
        rw [this, select_zero, select_zero]
        exact ⟨126, by norm_num, by norm_num, triv, triv'⟩
    · have : IntOp.andi (Ideal.cmp .oge y (Ideal.ofBits .f32 0x00800000#32)) (Ideal.cmp .ole y (Ideal.ofBits .f32 0x7F7FFFFF#32)) = 0#1 := by
        simp [Ideal.cmp, IntOp.andi, h1]
      rw [this, select_zero, select_zero]
      exact ⟨126, by norm_num, by norm_num, triv, triv'⟩

/-- The scale: the kernel's power of two of its exponent is the reference's `exp2`. -/
theorem scale_eq (a : EReal) : kPow (kExp a) = Ideal.exp2 (rExp a) := by
  obtain ⟨k, h1, h2, hk, hr⟩ := exists_exponent a
  rw [hk, hr, kPow_pos k h1 h2]
  show _ = ((Real.rpow 2 ((k : ℝ) - 126) : ℝ) : EReal)
  congr 1
  rw [show ((k : ℝ) - 126) = (((k : ℤ) - 126 : ℤ) : ℝ) by push_cast; ring]
  exact (Real.rpow_intCast 2 _).symm

/-- The inverse scale: the same of the negated exponents. -/
theorem invScale_eq (a : EReal) : kPow (0#32 - kExp a) = Ideal.exp2 (Ideal.ofBits .f32 0x00000000#32 - rExp a) := by
  obtain ⟨k, h1, h2, hk, hr⟩ := exists_exponent a
  rw [hk, hr, kPow_neg k h1 h2, zero_eq, ← EReal.coe_sub]
  show _ = ((Real.rpow 2 (0 - ((k : ℝ) - 126)) : ℝ) : EReal)
  congr 1
  rw [show (0 - ((k : ℝ) - 126)) = ((126 - (k : ℤ) : ℤ) : ℝ) by push_cast; ring]
  exact (Real.rpow_intCast 2 _).symm

end Cert.Quant

end
-- ==== Proof.Rows.lean ====
/- The problem's mathematics on plain arrays of extended reals: the greatest magnitude of a row, the scale and the codes
   of a row quantised by a power of two, and one element of the gated product. With it the readings, at an index, of
   the three layout patterns both programs use: a row maximum kept as a column, a column spread over a row, a row
   spread over a column. -/
module

public import proofs.«01_k».proof.Proof.Scale
public import Idealize.ShloMosaic.PureOps.Ideal.Laws
public import Idealize.ShloMosaic.Lib.ValueIdx
public import Idealize.ShloMosaic.Lib.Pipeline.Value

@[expose] public section

noncomputable section

namespace Cert.Quant

open Idealize.ShloMosaic Idealize.ShloMosaic.ValueIdx

/-- The magnitude of an extended real. -/
def mag (x : EReal) : EReal := max x (-x)

/-- The greatest of finitely many extended reals (`-∞` of none). -/
def rowMax {n : ℕ} (f : Fin n → EReal) : EReal :=
  (Finset.univ : Finset (Fin n)).fold max (Ideal.ofBits .f32 0xFF800000#32) f

/-- The scale of a row whose greatest magnitude is `a`. -/
def scaleOf (a : EReal) : EReal := Ideal.exp2 (rExp a)

/-- The code of `v` in a row whose greatest magnitude is `a`: `v` times the inverse scale, clipped to ±448. -/
def codeOf (v a : EReal) : EReal :=
  min (Ideal.ofBits .f32 0x43E00000#32)
    (max (Ideal.ofBits .f32 0xC3E00000#32) (v * Ideal.exp2 (Ideal.ofBits .f32 0x00000000#32 - rExp a)))

/-- The scales of an array's rows, as a column. -/
def scales {N n : ℕ} (x : (⟨2, ![N, n]⟩ : Shape).Idx → EReal) : (⟨2, ![N, 1]⟩ : Shape).Idx → EReal :=
  fun j => scaleOf (rowMax fun k : Fin n => mag (x (ix2 (j 0) k)))

/-- The codes of an array, row by row. -/
def codes {N n : ℕ} (x : (⟨2, ![N, n]⟩ : Shape).Idx → EReal) : (⟨2, ![N, n]⟩ : Shape).Idx → EReal :=
  fun j => codeOf (x j) (rowMax fun k : Fin n => mag (x (ix2 (j 0) k)))

/-- Two rows that agree have one greatest magnitude. -/
theorem rowMax_congr {n : ℕ} {f g : Fin n → EReal} (h : ∀ k, f k = g k) : rowMax f = rowMax g := by rw [funext h]

/-- The scales of a block of whole rows are the array's at those rows. -/
theorem scales_block {M N n : ℕ} (X : (⟨2, ![N, n]⟩ : Shape).Idx → EReal) (B : (⟨2, ![M, n]⟩ : Shape).Idx → EReal)
    (y : (⟨2, ![M, 1]⟩ : Shape).Idx) (z : (⟨2, ![N, 1]⟩ : Shape).Idx)
    (h : ∀ k : Fin n, B (ix2 (y 0) k) = X (ix2 (z 0) k)) : scales B y = scales X z := by
  unfold scales
  exact congrArg scaleOf (rowMax_congr fun k => congrArg mag (h k))

/-- The codes of a block of whole rows are the array's at those rows. -/
theorem codes_block {M N n : ℕ} (X : (⟨2, ![N, n]⟩ : Shape).Idx → EReal) (B : (⟨2, ![M, n]⟩ : Shape).Idx → EReal)
    (y : (⟨2, ![M, n]⟩ : Shape).Idx) (z : (⟨2, ![N, n]⟩ : Shape).Idx) (hz : B y = X z)
    (h : ∀ k : Fin n, B (ix2 (y 0) k) = X (ix2 (z 0) k)) : codes B y = codes X z := by
  unfold codes
  rw [hz]
  exact congrArg (codeOf _) (rowMax_congr fun k => congrArg mag (h k))

/-- One element of the gated product from the two sums, the row's scale and the two columns' scales. -/
def gated (dg du s g u : EReal) : EReal :=
  (dg * s * g) * Ideal.logistic (dg * s * g) * (du * s * u)

/-- Column `q` of the gate half of a double-width array. -/
def gateCol (q : Fin 5632) : Fin 11264 := ⟨q.val, by omega⟩

/-- Column `q` of the up half of a double-width array. -/
def upCol (q : Fin 5632) : Fin 11264 := ⟨5632 + q.val, by omega⟩

/-- The gated product of a quantised input (codes `xc`, row scales `xs`) with quantised weights (codes `w`, column
    scales `ws`), whose first 5632 columns are the gate's and whose last 5632 are the up projection's. -/
def gatedOf (xc : (⟨2, ![24576, 8192]⟩ : Shape).Idx → EReal) (xs : (⟨2, ![24576, 1]⟩ : Shape).Idx → EReal)
    (w : (⟨2, ![8192, 11264]⟩ : Shape).Idx → EReal) (ws : (⟨2, ![1, 11264]⟩ : Shape).Idx → EReal) :
    (⟨2, ![24576, 5632]⟩ : Shape).Idx → EReal :=
  fun j => gated (∑ k : Fin 8192, xc (ix2 (j 0) k) * w (ix2 k (gateCol (j 1))))
    (∑ k : Fin 8192, xc (ix2 (j 0) k) * w (ix2 k (upCol (j 1)))) (xs (ix2 (j 0) 0)) (ws (ix2 0 (gateCol (j 1)))) (ws (ix2 0 (upCol (j 1))))

/-! ## Readings at an index -/

/-- A row maximum kept as a column reads, at row `r`, the greatest of that row. -/
theorem rowMax_apply {N n : ℕ} (v : FVec Ideal ⟨2, ![N, n]⟩ .f32) (h : Shape.Reduces ⟨2, ![N, n]⟩ [1] ⟨1, ![N]⟩)
    (hφ : FKind.Formats .f32) (hacc : (0xFF800000#32 : BitVec 32) = FKind.maximumf.neutral .f32 hφ)
    (hc : (⟨1, ![N]⟩ : Shape).ShapeCasts ⟨2, ![N, 1]⟩) (j : (⟨2, ![N, 1]⟩ : Shape).Idx) :
    shapeCast ⟨2, ![N, 1]⟩ (multiReduction .maximumf [1] ⟨1, ![N]⟩ v 0xFF800000#32 h hφ hacc) hc j
      = rowMax fun k : Fin n => v (ix2 (j 0) k) := by
  rw [shapeCast_apply _ hc j (ix1 (j 0)) (by
    rw [Shape.rowMajor_val_one, Shape.rowMajor_val_two]
    have h1 : (j 1).val < 1 := (j 1).isLt
    show (j 0).val = (j 0).val * 1 + (j 1).val
    omega), Ideal.multiReduction_maximumf_single]
  refine congrArg (Finset.univ.fold max _) (funext fun k => congrArg v (funext fun a => Fin.ext ?_))
  match a with
  | ⟨0, _⟩ => rfl
  | ⟨1, _⟩ => rfl

/-- A column spread over the rows reads, at an index, the column at that row. -/
theorem spreadCol_apply {N n : ℕ} {α : Type} (x : (⟨2, ![N, 1]⟩ : Shape).Idx → α)
    (h : (⟨2, ![N, 1]⟩ : Shape).Broadcasts ⟨2, ![N, n]⟩) (hN : N ≠ 1) (j : (⟨2, ![N, n]⟩ : Shape).Idx) :
    broadcastTo ⟨2, ![N, n]⟩ x h j = x (ix2 (j 0) 0) := by
  refine broadcastTo_apply x h j _ fun a => ?_
  match a with
  | ⟨0, _⟩ => exact (if_neg (show ¬ N = 1 from hN)).symm
  | ⟨1, _⟩ => exact (if_pos (show (1 : ℕ) = 1 from rfl)).symm

/-- A row spread over the columns reads, at an index, the row at that column. -/
theorem spreadRow_apply {N n : ℕ} {α : Type} (x : (⟨2, ![1, n]⟩ : Shape).Idx → α)
    (h : (⟨2, ![1, n]⟩ : Shape).Broadcasts ⟨2, ![N, n]⟩) (hn : n ≠ 1) (j : (⟨2, ![N, n]⟩ : Shape).Idx) :
    broadcastTo ⟨2, ![N, n]⟩ x h j = x (ix2 0 (j 1)) := by
  refine broadcastTo_apply x h j _ fun a => ?_
  match a with
  | ⟨0, _⟩ => exact (if_pos (show (1 : ℕ) = 1 from rfl)).symm
  | ⟨1, _⟩ => exact (if_neg (show ¬ n = 1 from hn)).symm

/-! ## The kernel's exponent and powers, on vectors of any shape -/

section Vectors

variable {s : Shape}

/-- One step of the search, element by element. -/
def stepV (y : FVec Ideal s .f32) (f : IVec s 32) (b : BitVec 32) : IVec s 32 :=
  select (cmpf .oge y (bitcastToFloat .f32 (shli (addi f (broadcast s b)) (broadcast s 23#32)))) (addi f (broadcast s b)) f

/-- The operation, read at an index. -/
theorem stepV_apply (y : FVec Ideal s .f32) (f : IVec s 32) (b : BitVec 32) (j : s.Idx) :
    stepV y f b j = step (y j) (f j) b := rfl

/-- The search's first five bits. -/
def fieldHiV (y : FVec Ideal s .f32) : IVec s 32 :=
  stepV y (stepV y (stepV y (stepV y (stepV y (broadcast s 0#32) 128#32) 64#32) 32#32) 16#32) 8#32

/-- The product of a row's greatest magnitude with the constant 1/448. -/
def ratioV (a : FVec Ideal s .f32) : FVec Ideal s .f32 := mulf a (broadcast s (Scalar.ofBits .f32 0x3B124925#32))

/-- The operation, read at an index. -/
theorem ratioV_apply (a : FVec Ideal s .f32) (j : s.Idx) : ratioV a j = a j * Ideal.ofBits .f32 0x3B124925#32 := rfl
/-- The operation, read at an index. -/
theorem andiV_apply (x y : IVec s 1) (j : s.Idx) : andi x y j = IntOp.andi (x j) (y j) := rfl
/-- The operation, read at an index. -/
theorem subiV_apply (x y : IVec s 32) (j : s.Idx) : subi x y j = x j - y j := rfl
/-- Comparison over the extended reals. -/
theorem cmpf_ideal (p : CmpFPredicate) (x y : Ideal .f32) : FloatOps.cmpf (F := Ideal) (φ := .f32) p x y = Ideal.cmp p x y := rfl
/-- A constant over the extended reals. -/
theorem ofBits_ideal (b : BitVec 32) : Scalar.ofBits (F := Ideal) .f32 b = Ideal.ofBits .f32 b := rfl

/-- The exponent from the five bits already found, element by element. -/
def expV (a y : FVec Ideal s .f32) (f : IVec s 32) : IVec s 32 :=
  select (cmpf .oeq a (broadcast s (Scalar.ofBits .f32 0x00000000#32))) (broadcast s 0#32)
    (select (andi (cmpf .oge y (broadcast s (Scalar.ofBits .f32 0x00800000#32))) (cmpf .ole y (broadcast s (Scalar.ofBits .f32 0x7F7FFFFF#32))))
      (subi (stepV y (stepV y (stepV y f 4#32) 2#32) 1#32) (broadcast s 126#32)) (broadcast s 0#32))

/-- The kernel's exponent, read at an index. -/
theorem expV_apply (a : FVec Ideal s .f32) (j : s.Idx) : expV a (ratioV a) (fieldHiV (ratioV a)) j = kExp (a j) := by
  unfold expV kExp field fieldHiV
  simp only [select_apply, cmpf_apply, broadcast_apply, stepV_apply, ratioV_apply, andiV_apply, subiV_apply, cmpf_ideal,
    ofBits_ideal]

/-- The first factor of a power of two. -/
def powLoV (e : IVec s 32) : FVec Ideal s .f32 :=
  bitcastToFloat .f32 (shli (addi (shrsi e (broadcast s 1#32)) (broadcast s 127#32)) (broadcast s 23#32))

/-- The second factor of a power of two. -/
def powHiV (e : IVec s 32) : FVec Ideal s .f32 :=
  bitcastToFloat .f32 (shli (addi (subi e (shrsi e (broadcast s 1#32))) (broadcast s 127#32)) (broadcast s 23#32))

/-- The product of the two powers of two, read at an index. -/
theorem pow_apply (e : IVec s 32) (j : s.Idx) : mulf (powLoV e) (powHiV e) j = kPow (e j) := rfl

/-- The inverse power, of the negated exponent. -/
theorem pow_neg_apply (e : IVec s 32) (j : s.Idx) :
    mulf (powLoV (subi (broadcast s 0#32) e)) (powHiV (subi (broadcast s 0#32) e)) j = kPow (0#32 - e j) := rfl

/-- Clipping to ±448, element by element. -/
def clipV (x : FVec Ideal s .f32) : FVec Ideal s .f32 :=
  minimumf (broadcast s (Scalar.ofBits .f32 0x43E00000#32)) (maximumf (broadcast s (Scalar.ofBits .f32 0xC3E00000#32)) x)

/-- The operation, read at an index. -/
theorem clipV_apply (x : FVec Ideal s .f32) (j : s.Idx) :
    clipV x j = min (Ideal.ofBits .f32 0x43E00000#32) (max (Ideal.ofBits .f32 0xC3E00000#32) (x j)) := rfl

end Vectors

/-- The offset of a whole rectangle. -/
theorem zero2 : (![0, 0] : Fin 2 → Nat) = fun _ => 0 := funext fun a => by fin_cases a <;> rfl

end Cert.Quant

end
-- ==== Proof.QuantValue.lean ====
/- What the first call leaves in its two arrays: the codes and the scales of the input's rows. -/
module

public import proofs.«01_k».proof.Proof.QuantCall
public import proofs.«01_k».proof.Proof.Rows
public import Idealize.ShloMosaic.Lib.Pipeline.ValueKit

@[expose] public section

set_option maxRecDepth 65536

noncomputable section

namespace Cert.KernelIdeal.Gen

open Idealize.ShloMosaic Idealize.ShloMosaic.TcCoe Idealize.ShloMosaic.ValueIdx Idealize.SL.Sem Cert.Quant
open Idealize.ShloMosaic.Pipeline (Dat Cfg Window cellOf)

/-- The greatest magnitude of a row of the block. -/
theorem k0_pay4_apply (x0 : Vec Ideal S256x8192 .bf16) (j : S256x1.Idx) :
    k0_pay4 x0 j = rowMax fun k : Fin 8192 => mag (x0 (ValueIdx.ix2 (j 0) k)) := by
  unfold k0_pay4 k0_pay3
  rw [shapeCast_self]
  exact rowMax_apply _ _ _ _ _ j

/-- The exponents the kernel finds for the rows. -/
def expBlock (x0 : Vec Ideal S256x8192 .bf16) : IVec S256x1 32 :=
  expV (k0_pay4 x0) (ratioV (k0_pay4 x0)) (fieldHiV (ratioV (k0_pay4 x0)))

/-- A piece of the body, in the shared form. -/
theorem k0_pay5_eq (x0 : Vec Ideal S256x8192 .bf16) : k0_pay5 x0 = ratioV (k0_pay4 x0) := rfl

/-- A piece of the body, in the shared form. -/
theorem k0_pay6_eq (x0 : Vec Ideal S256x8192 .bf16) : k0_pay6 x0 = fieldHiV (k0_pay5 x0) := rfl

/-- A piece of the body, in the shared form. -/
theorem k0_pay7_eq (a y : FVec Ideal S256x1 .f32) (f : IVec S256x1 32) : k0_pay7 a y f = expV a y f := rfl

/-- The exponents of a block of rows, in the shared form. -/
theorem k0_exp_eq (x0 : Vec Ideal S256x8192 .bf16) :
    k0_pay7 (k0_pay4 x0) (k0_pay5 x0) (k0_pay6 x0) = expBlock x0 := by
  rw [k0_pay7_eq, k0_pay6_eq, k0_pay5_eq]; rfl

/-- A piece of the body, in the shared form. -/
theorem k0_pay1_eq (a y : FVec Ideal S256x1 .f32) (f : IVec S256x1 32) :
    k0_pay1 (k0_pay9 a y f) (k0_pay10 a y f) = mulf (powLoV (k0_pay7 a y f)) (powHiV (k0_pay7 a y f)) := rfl

/-- A piece of the body, in the shared form. -/
theorem k0_pay2_eq (v : FVec Ideal S256x8192 .f32) (e : IVec S256x1 32) :
    k0_pay2 v e = clipV (mulf v (broadcastTo S256x8192
      (mulf (powLoV (subi (broadcast S256x1 0#32) e)) (powHiV (subi (broadcast S256x1 0#32) e))) broadcasts_S256x1_S256x8192)) := rfl

/-- The block of scales. -/
theorem out0_2_eq (x0 : Vec Ideal S256x8192 .bf16) : out0_2 x0 = scales x0 := by
  funext j
  unfold out0_2 k0_pay11 k0_pay12 k0_pay13
  rw [View.canon_unit_zero zero2, View.ld_unit_zero zero2, k0_pay1_eq, k0_exp_eq, pow_apply]
  unfold expBlock
  rw [expV_apply, scale_eq, k0_pay4_apply]; rfl

/-- The block of codes. -/
theorem out0_1_eq (x0 : Vec Ideal S256x8192 .bf16) : out0_1 x0 = codes x0 := by
  funext j
  unfold out0_1 k0_pay11 k0_pay12 k0_pay13
  rw [View.canon_unit_zero zero2, View.ld_unit_zero zero2, k0_pay2_eq, k0_exp_eq, clipV_apply, mulf_apply,
    spreadCol_apply _ _ (by decide), pow_neg_apply]
  unfold expBlock
  rw [expV_apply, invScale_eq, k0_pay4_apply]
  unfold k0_pay3
  rw [shapeCast_self]; rfl

/-! ## The arrays -/

section Arrays

variable (V : (c : Dev nD) → (b : Ref sig .tc) → Buf (Elt Ideal) ((c : Thread nD τ).loc b))

/-- The block that window 0 reads or writes at each step. -/
theorem idx0_0 : ∀ t : Fin cfg0.N, win0_0.index t = ![t.val, 0] := (by decide +kernel : ∀ t : Fin grid0.N, _)
/-- The block that window 1 reads or writes at each step. -/
theorem idx0_1 : ∀ t : Fin cfg0.N, win0_1.index t = ![t.val, 0] := (by decide +kernel : ∀ t : Fin grid0.N, _)
/-- The block that window 2 reads or writes at each step. -/
theorem idx0_2 : ∀ t : Fin cfg0.N, win0_2.index t = ![t.val, 0] := (by decide +kernel : ∀ t : Fin grid0.N, _)

/-- The input's block at an index is the input there. -/
theorem iblk0_apply (c : Dev nD) (t : Fin cfg0.N) (z : S256x8192.Idx) :
    iblk0 V c 0 t z = V c main_v0 ((win0_0.blk t).view.emb z) := rfl

/-- Row `p` of the block of point `t` is row `256 t + p` of the input. -/
theorem row0 (c : Dev nD) (t : Fin cfg0.N) (p : Fin 256) (k : Fin 8192) (r : Fin 24576) (hr : r.val = t.val * 256 + p.val) :
    iblk0 V c 0 t (ValueIdx.ix2 p k) = V c main_v0 (ValueIdx.ix2 r k) := by
  rw [iblk0_apply]
  refine congrArg (V c main_v0) ?_
  blk_ext [idx0_0 t, hr]

/-- The codes' array after the first call: the codes of the input. -/
theorem final0_1 (c : Dev nD) : (dat0 V c).arrAt 1 cfg0.N = codes (N := 24576) (n := 8192) (V c main_v0) := by
  refine (dat0 V c).arrAt_eq_of_covers 1 _ (by decide +kernel) fun t hf y => ?_
  blk_simp
  rw [after0_1, out0_1_eq]
  have hz : ((win0_1.blk t).view.emb y 0 : Nat) = t.val * 256 + (y 0).val := by blk_simp [idx0_1 t]
  refine codes_block _ _ y _ ?_ fun k => row0 V c t (y 0) k _ hz
  rw [iblk0_apply]
  refine congrArg (V c main_v0) ?_
  blk_ext [idx0_0 t, idx0_1 t]

/-- The scales' array after the first call: the scales of the input. -/
theorem final0_2 (c : Dev nD) : (dat0 V c).arrAt 2 cfg0.N = scales (N := 24576) (n := 8192) (V c main_v0) := by
  refine (dat0 V c).arrAt_eq_of_covers 2 _ (by decide +kernel) fun t hf y => ?_
  blk_simp
  rw [after0_2, out0_2_eq]
  have hz : ((win0_2.blk t).view.emb y 0 : Nat) = t.val * 256 + (y 0).val := by blk_simp [idx0_2 t]
  exact scales_block _ _ y _ fun k => row0 V c t (y 0) k _ hz

end Arrays

end Cert.KernelIdeal.Gen

end
-- ==== Proof.MainValue.lean ====
/- The second call's body read at an index: a slice of the gated product, the running maximum, the scales and the codes
   of a block of rows. -/
module

public import proofs.«01_k».proof.Proof.MainCall
public import proofs.«01_k».proof.Proof.Rows
public import Idealize.ShloMosaic.Lib.MatmulPlain
public import Idealize.ShloMosaic.Lib.Pipeline.ValueKit

@[expose] public section

set_option maxRecDepth 65536

noncomputable section

namespace Cert.KernelIdeal.Gen

open Idealize.ShloMosaic Idealize.ShloMosaic.TcCoe Idealize.SL.Sem Cert.Quant
open Idealize.ShloMosaic.Pipeline (Dat Cfg Window cellOf)

/-- The operation, read at an index. -/
theorem logisticV_apply {s : Shape} (e : FVec Ideal s .f32) (j : s.Idx) : logistic e j = Ideal.logistic (e j) := rfl

/-- The operation, read at an index. -/
theorem absV_apply {s : Shape} (e : FVec Ideal s .f32) (j : s.Idx) : absf e j = mag (e j) := rfl

/-- The operation, read at an index. -/
theorem maxV_apply {s : Shape} (e f : FVec Ideal s .f32) (j : s.Idx) : maximumf e f j = max (e j) (f j) := rfl

/-! ## A slice of the gated product -/

/-- A product of a block of codes with a block of weights, at an index. -/
theorem matmul_block (x : FVec Ideal S512x8192 .fp8e4m3) (w : FVec Ideal S8192x512 .fp8e4m3) (p q : Fin 512) :
    matmul dot_S512x8192_S8192x512_S512x512_1_0_0_1_n_n none x w (constant S512x512 .f32 0x00000000#32) (ValueIdx.ix2 p q)
      = ∑ k : Fin 8192, x (ValueIdx.ix2 p k) * w (ValueIdx.ix2 k q) := by
  refine (Ideal.matmul_plain_apply (M := 512) (K := 8192) (N := 512) (φ₁ := .fp8e4m3) (φ₂ := .fp8e4m3) none _ _ _ p q).trans ?_
  exact (congrArg (· + _) (Ideal.ofBits_zero (φ := .f32))).trans (zero_add _)

/-- One element of a slice of the gated product. -/
theorem k1_pay24_apply (x0 : Vec Ideal S512x8192 .fp8e4m3) (x1 : Vec Ideal S512x1 .f32) (x2 x3 : Vec Ideal S8192x512 .fp8e4m3)
    (x4 x5 : Vec Ideal S1x512 .f32) (p q : Fin 512) :
    k1_pay24 x0 x1 x2 x3 x4 x5 (ValueIdx.ix2 p q)
      = gated (∑ k : Fin 8192, x0 (ValueIdx.ix2 p k) * x2 (ValueIdx.ix2 k q)) (∑ k : Fin 8192, x0 (ValueIdx.ix2 p k) * x3 (ValueIdx.ix2 k q))
          (x1 (ValueIdx.ix2 p 0)) (x4 (ValueIdx.ix2 0 q)) (x5 (ValueIdx.ix2 0 q)) := by
  unfold k1_pay24
  simp only [shapeCast_self]
  rw [mulf_apply, mulf_apply, logisticV_apply, mulf_apply, mulf_apply, mulf_apply, mulf_apply, spreadCol_apply _ _ (by decide),
    spreadRow_apply _ _ (by decide), spreadRow_apply _ _ (by decide), matmul_block, matmul_block]
  rfl

/-- The slice written to the scratch, at an index. -/
theorem hSlice_apply (x0 : Vec Ideal S512x8192 .fp8e4m3) (x1 : Vec Ideal S512x1 .f32) (x2 x3 : Vec Ideal S8192x512 .fp8e4m3)
    (x4 x5 : Vec Ideal S1x512 .f32) (p q : Fin 512) :
    hSlice x0 x1 x2 x3 x4 x5 (ValueIdx.ix3 0 p q) = k1_pay24 x0 x1 x2 x3 x4 x5 (ValueIdx.ix2 p q) := by
  unfold hSlice k1_pay25
  rw [View.ld_unit_zero zero2, View.ld_unit_zero zero2, View.ld_unit_zero zero2, View.ld_unit_zero zero2, View.ld_unit_zero zero2, View.ld_unit_zero zero2]
  exact shapeCast_apply _ _ _ _ (by rw [Shape.rowMajor_val_two, Shape.rowMajor_val_three]; show p.val * 512 + q.val = (0 * 512 + p.val) * 512 + q.val; omega)

/-! ## The running maximum -/

/-- Column `128 g + l` of a slice. -/
def laneCol (g : Fin 4) (l : Fin 128) : Fin 512 := ⟨128 * g.val + l.val, by omega⟩

/-- One of the four runs of 128 lanes of a slice, read at an index. -/
theorem lanes_apply (o : Fin 2 → Nat) (g : Fin 4) (ho : o = ![0, 128 * g.val]) (x : FVec Ideal S512x512 .f32) (h : Shape.Slices S512x512 o S512x128)
    (p : Fin 512) (l : Fin 128) : extractStridedSlice S512x128 o x h (ValueIdx.ix2 p l) = x (ValueIdx.ix2 p (laneCol g l)) := by
  subst ho
  exact congrArg x (funext fun a => Fin.ext (by
    match a with
    | ⟨0, _⟩ => exact Nat.zero_add _
    | ⟨1, _⟩ => rfl))

/-- A slice's maximum in lane `l` bounds exactly what bounds the slice's four columns of that lane. -/
theorem k1_pay26_le (x0 : Vec Ideal S512x8192 .fp8e4m3) (x1 : Vec Ideal S512x1 .f32) (x2 x3 : Vec Ideal S8192x512 .fp8e4m3)
    (x4 x5 : Vec Ideal S1x512 .f32) (p : Fin 512) (l : Fin 128) (b : EReal) :
    k1_pay26 x0 x1 x2 x3 x4 x5 (ValueIdx.ix2 p l) ≤ b ↔ ∀ g : Fin 4, mag (k1_pay24 x0 x1 x2 x3 x4 x5 (ValueIdx.ix2 p (laneCol g l))) ≤ b := by
  unfold k1_pay26
  rw [maxV_apply, maxV_apply, maxV_apply, lanes_apply ![0, 0] 0 rfl, lanes_apply ![0, 128] 1 rfl, lanes_apply ![0, 256] 2 rfl,
    lanes_apply ![0, 384] 3 rfl,
    absV_apply, absV_apply, absV_apply, absV_apply, max_le_iff, max_le_iff, max_le_iff]
  constructor
  · rintro ⟨⟨⟨h0, h1⟩, h2⟩, h3⟩ g
    match g with
    | ⟨0, _⟩ => exact h0
    | ⟨1, _⟩ => exact h1
    | ⟨2, _⟩ => exact h2
    | ⟨3, _⟩ => exact h3
  · exact fun h => ⟨⟨⟨h 0, h 1⟩, h 2⟩, h 3⟩

/-- The first step's running maximum. -/
theorem amaxNext_zero (i : grid1.Coords) (hi : (i 1).val = 0) (x0 : Vec Ideal S512x8192 .fp8e4m3) (x1 : Vec Ideal S512x1 .f32) (x2 x3 : Vec Ideal S8192x512 .fp8e4m3)
    (x4 x5 : Vec Ideal S1x512 .f32) (d : Vec Ideal S512x128 .f32) :
    amaxNext i x0 x1 x2 x3 x4 x5 d = k1_pay26 x0 x1 x2 x3 x4 x5 := by
  unfold amaxNext k1_pay1
  rw [View.ld_unit_zero zero2, View.ld_unit_zero zero2, View.ld_unit_zero zero2, View.ld_unit_zero zero2, View.ld_unit_zero zero2, View.ld_unit_zero zero2,
    hi]
  exact shapeCast_self _ _

/-- A later step's running maximum. -/
theorem amaxNext_pos (i : grid1.Coords) (hi : Scalar.cmpi .eq (BitVec.ofNat 32 (i 1).val) 0#32 = 0#1) (x0 : Vec Ideal S512x8192 .fp8e4m3) (x1 : Vec Ideal S512x1 .f32) (x2 x3 : Vec Ideal S8192x512 .fp8e4m3)
    (x4 x5 : Vec Ideal S1x512 .f32) (d : Vec Ideal S512x128 .f32) (j : S512x128.Idx) :
    amaxNext i x0 x1 x2 x3 x4 x5 d j = max (d j) (k1_pay26 x0 x1 x2 x3 x4 x5 j) := by
  unfold amaxNext k1_pay1
  rw [View.ld_unit_zero zero2, View.ld_unit_zero zero2, View.ld_unit_zero zero2, View.ld_unit_zero zero2, View.ld_unit_zero zero2, View.ld_unit_zero zero2,
    View.ld_unit_zero zero2, hi]
  exact congrFun (shapeCast_self _ _) j

/-! ## The scales and the codes of a block of rows -/

/-- The row maximum of the 128 lanes of the running maximum. -/
theorem k1_pay5_apply (d : Vec Ideal S512x128 .f32) (j : S512x1.Idx) :
    k1_pay5 d j = rowMax fun l : Fin 128 => d (ValueIdx.ix2 (j 0) l) :=
  rowMax_apply _ _ _ _ _ j

/-- A piece of the body, in the shared form. -/
theorem k1_pay6_eq (d : Vec Ideal S512x128 .f32) : k1_pay6 d = ratioV (k1_pay5 d) := rfl

/-- A piece of the body, in the shared form. -/
theorem k1_pay7_eq (d : Vec Ideal S512x128 .f32) : k1_pay7 d = fieldHiV (k1_pay6 d) := rfl

/-- A piece of the body, in the shared form. -/
theorem k1_pay8_eq (d : Vec Ideal S512x128 .f32) : k1_pay8 d = addi (k1_pay7 d) (broadcast S512x1 4#32) := rfl

/-- A piece of the body, in the shared form. -/
theorem k1_pay9_eq (a y : FVec Ideal S512x1 .f32) (f : IVec S512x1 32) :
    k1_pay9 a y f (addi f (broadcast S512x1 4#32)) 23#32 = expV a y f := rfl

/-- The exponents of a block of rows, in the shared form. -/
theorem hExp_eq (d : Vec Ideal S512x128 .f32) : hExp d = expV (k1_pay5 d) (ratioV (k1_pay5 d)) (fieldHiV (ratioV (k1_pay5 d))) := by
  unfold hExp
  rw [k1_pay8_eq, k1_pay9_eq, k1_pay7_eq, k1_pay6_eq]

/-- The exponent of one row, from its greatest magnitude. -/
theorem hExp_apply (d : Vec Ideal S512x128 .f32) (j : S512x1.Idx) : hExp d j = kExp (rowMax fun l : Fin 128 => d (ValueIdx.ix2 (j 0) l)) := by
  rw [hExp_eq, expV_apply, k1_pay5_apply]

/-- A piece of the body, in the shared form. -/
theorem k1_pay13_eq (a y : FVec Ideal S512x1 .f32) (f g : IVec S512x1 32) (b : BitVec 32) :
    k1_pay13 (k1_pay11 a y f g b) (k1_pay12 a y f g b) = mulf (powLoV (k1_pay9 a y f g b)) (powHiV (k1_pay9 a y f g b)) := rfl

/-- The block of scales. -/
theorem out1_6_apply (d : Vec Ideal S512x128 .f32) (j : S512x1.Idx) :
    out1_6 d j = scaleOf (rowMax fun l : Fin 128 => d (ValueIdx.ix2 (j 0) l)) := by
  unfold out1_6
  rw [View.canon_unit_zero zero2, k1_pay13_eq, pow_apply]
  refine (congrArg kPow (hExp_apply d j)).trans ?_
  rw [scale_eq]; rfl

/-- A block of codes, from the row exponents and a slice of the scratch. -/
def sliceV (e : IVec S512x1 32) (v : Vec Ideal S1x512x512 .f32) : FVec Ideal S512x512 .f32 :=
  clipV (mulf (shapeCast S512x512 v shapeCasts_S1x512x512_S512x512) (broadcastTo S512x512
    (mulf (powLoV (subi (broadcast S512x1 0#32) e)) (powHiV (subi (broadcast S512x1 0#32) e))) broadcasts_S512x1_S512x512))

/-- The operation, read at an index. -/
theorem sliceV_apply (d : Vec Ideal S512x128 .f32) (v : Vec Ideal S1x512x512 .f32) (p q : Fin 512) :
    sliceV (hExp d) v (ValueIdx.ix2 p q) = codeOf (v (ValueIdx.ix3 0 p q)) (rowMax fun l : Fin 128 => d (ValueIdx.ix2 p l)) := by
  unfold sliceV
  rw [clipV_apply, mulf_apply, spreadCol_apply _ _ (by decide), pow_neg_apply, hExp_apply, invScale_eq,
    shapeCast_apply v _ _ (ValueIdx.ix3 0 p q) (by
      rw [Shape.rowMajor_val_two, Shape.rowMajor_val_three]; show (0 * 512 + p.val) * 512 + q.val = p.val * 512 + q.val; omega)]
  rfl

section Slices
variable (e : IVec S512x1 32) (v : Vec Ideal S1x512x512 .f32)
/-- A piece of the body, in the shared form. -/
theorem k1_pay15_eq : k1_pay15 e v = sliceV e v := rfl
/-- A piece of the body, in the shared form. -/
theorem k1_pay16_eq : k1_pay16 e v = sliceV e v := rfl
/-- A piece of the body, in the shared form. -/
theorem k1_pay17_eq : k1_pay17 (k1_pay14 (F := Ideal) e) v = sliceV e v := rfl
/-- A piece of the body, in the shared form. -/
theorem k1_pay18_eq : k1_pay18 (k1_pay14 (F := Ideal) e) v = sliceV e v := rfl
/-- A piece of the body, in the shared form. -/
theorem k1_pay19_eq : k1_pay19 (k1_pay14 (F := Ideal) e) v = sliceV e v := rfl
/-- A piece of the body, in the shared form. -/
theorem k1_pay20_eq : k1_pay20 (k1_pay14 (F := Ideal) e) v = sliceV e v := rfl
/-- A piece of the body, in the shared form. -/
theorem k1_pay21_eq : k1_pay21 (k1_pay14 (F := Ideal) e) v = sliceV e v := rfl
/-- A piece of the body, in the shared form. -/
theorem k1_pay22_eq : k1_pay22 (k1_pay14 (F := Ideal) e) v = sliceV e v := rfl
/-- A piece of the body, in the shared form. -/
theorem k1_pay23_eq : k1_pay2 (k1_pay23 (k1_pay14 (F := Ideal) e) v) (Scalar.ofBits .f32 0xC3E00000#32) (Scalar.ofBits .f32 0x43E00000#32) = sliceV e v := rfl
/-- A piece of the body, in the shared form. -/
theorem k1_pay3_eq : k1_pay3 (k1_pay14 (F := Ideal) e) v = sliceV e v := rfl
/-- A piece of the body, in the shared form. -/
theorem k1_pay4_eq : k1_pay4 (k1_pay14 (F := Ideal) e) v = sliceV e v := rfl
end Slices

/-- Column `512 j + q` of the gated product. -/
def sliceCol (j : Fin 11) (q : Fin 512) : Fin 5632 := ⟨512 * j.val + q.val, by omega⟩

/-- One of the eleven pieces agrees with `G` when `G` is the codes of the scratch. -/
theorem piece_eq (h : Vec Ideal S11x512x512 .f32) (d : Vec Ideal S512x128 .f32) (G : S512x5632.Idx → EReal)
    (hG : ∀ (j : Fin 11) (p q : Fin 512), G (ValueIdx.ix2 p (sliceCol j q)) = codeOf (h (ValueIdx.ix3 j p q)) (rowMax fun l : Fin 128 => d (ValueIdx.ix2 p l)))
    (j : Fin 11) (o : Fin 2 → Nat) (oh : Fin 3 → Nat) (ho : o = ![0, 512 * j.val]) (hoh : oh = ![j.val, 0, 0])
    (ib : ∀ a, o a + S512x512.size a ≤ S512x5632.size a) (ibh : ∀ a, oh a + S1x512x512.size a ≤ S11x512x512.size a) (x : S512x512.Idx) :
    sliceV (hExp d) (View.ld h (Rect.unit (s := S11x512x512) oh S1x512x512.size ibh)) x = G ((Rect.unit (s := S512x5632) o S512x512.size ib).emb x) := by
  subst ho hoh
  obtain ⟨p, q, rfl⟩ : ∃ p q, x = ValueIdx.ix2 p q := ⟨x 0, x 1, ValueIdx.eq_ix2 x⟩
  have e1 : (Rect.unit (s := S512x5632) ![0, 512 * j.val] S512x512.size ib).emb (ValueIdx.ix2 p q) = ValueIdx.ix2 p (sliceCol j q) :=
    funext fun a => Fin.ext (by
      rw [Rect.emb_apply]
      match a with
      | ⟨0, _⟩ => show 0 + 1 * p.val = p.val; omega
      | ⟨1, _⟩ => show 512 * j.val + 1 * q.val = 512 * j.val + q.val; omega)
  have e2 : View.ld h (Rect.unit (s := S11x512x512) ![j.val, 0, 0] S1x512x512.size ibh) (ValueIdx.ix3 0 p q) = h (ValueIdx.ix3 j p q) :=
    congrArg h (funext fun a => Fin.ext (by
      match a with
      | ⟨0, _⟩ => show j.val + 1 * 0 = j.val; omega
      | ⟨1, _⟩ => show 0 + 1 * p.val = p.val; omega
      | ⟨2, _⟩ => show 0 + 1 * q.val = q.val; omega))
  rw [e1, hG, sliceV_apply, e2]

/-- The block of codes. -/
theorem out1_7_eq (h : Vec Ideal S11x512x512 .f32) (d : Vec Ideal S512x128 .f32) (G : S512x5632.Idx → EReal)
    (hG : ∀ (j : Fin 11) (p q : Fin 512), G (ValueIdx.ix2 p (sliceCol j q)) = codeOf (h (ValueIdx.ix3 j p q)) (rowMax fun l : Fin 128 => d (ValueIdx.ix2 p l))) :
    out1_7 h d = G := by
  funext y
  unfold out1_7
  rw [k1_pay15_eq, k1_pay16_eq, k1_pay17_eq, k1_pay18_eq, k1_pay19_eq, k1_pay20_eq, k1_pay21_eq, k1_pay22_eq, k1_pay23_eq, k1_pay3_eq, k1_pay4_eq]
  refine View.canon_apply_of_pieces (Val := Elt Ideal) (e := .fp8e4m3) G _ ?_ y (cover1_7 _ _ _ _ _ _ _ _ _ _ _ y)
  simp only [List.forall_mem_cons]
  exact ⟨piece_eq h d G hG 10 _ _ rfl rfl _ _, piece_eq h d G hG 9 _ _ rfl rfl _ _, piece_eq h d G hG 8 _ _ rfl rfl _ _, piece_eq h d G hG 7 _ _ rfl rfl _ _,
    piece_eq h d G hG 6 _ _ rfl rfl _ _, piece_eq h d G hG 5 _ _ rfl rfl _ _, piece_eq h d G hG 4 _ _ rfl rfl _ _, piece_eq h d G hG 3 _ _ rfl rfl _ _,
    piece_eq h d G hG 2 _ _ rfl rfl _ _, piece_eq h d G hG 1 _ _ rfl rfl _ _, piece_eq h d G hG 0 _ _ rfl rfl _ _, fun p hp => absurd hp List.not_mem_nil⟩

end Cert.KernelIdeal.Gen

end
-- ==== Proof.MainArrays.lean ====
/- What the second call leaves in its two arrays: the scales and the codes of the gated product's rows. -/
module

public import proofs.«01_k».proof.Proof.MainValue

@[expose] public section

set_option maxRecDepth 65536

noncomputable section

namespace Cert.KernelIdeal.Gen

open Idealize.ShloMosaic Idealize.ShloMosaic.TcCoe Idealize.SL.Sem Cert.Quant
open Idealize.ShloMosaic.Pipeline (Dat Cfg Window cellOf)

/-- The word of minus infinity is the least extended real. -/
theorem negInf_eq : Ideal.ofBits .f32 0xFF800000#32 = ⊥ := by
  simp [Ideal.ofBits, Ideal.ieee]

/-- A row's greatest magnitude is at most `b` exactly when every element is. -/
theorem rowMax_le {n : ℕ} (f : Fin n → EReal) (b : EReal) : rowMax f ≤ b ↔ ∀ k, f k ≤ b := by
  unfold rowMax
  rw [Finset.fold_max_le, negInf_eq]
  simp

section Arrays

variable (V : (c : Dev nD) → (b : Ref sig .tc) → Buf (Elt Ideal) ((c : Thread nD τ).loc b))

/-- The block that window 0 reads or writes at each step. -/
theorem idx1_0 : ∀ t : Fin cfg1.N, win1_0.index t = ![t.val / 11, 0] := (by decide +kernel : ∀ t : Fin grid1.N, _)
/-- The block that window 1 reads or writes at each step. -/
theorem idx1_1 : ∀ t : Fin cfg1.N, win1_1.index t = ![t.val / 11, 0] := (by decide +kernel : ∀ t : Fin grid1.N, _)
/-- The block that window 2 reads or writes at each step. -/
theorem idx1_2 : ∀ t : Fin cfg1.N, win1_2.index t = ![0, t.val % 11] := (by decide +kernel : ∀ t : Fin grid1.N, _)
/-- The block that window 3 reads or writes at each step. -/
theorem idx1_3 : ∀ t : Fin cfg1.N, win1_3.index t = ![0, t.val % 11 + 11] := (by decide +kernel : ∀ t : Fin grid1.N, _)
/-- The block that window 4 reads or writes at each step. -/
theorem idx1_4 : ∀ t : Fin cfg1.N, win1_4.index t = ![0, t.val % 11] := (by decide +kernel : ∀ t : Fin grid1.N, _)
/-- The block that window 5 reads or writes at each step. -/
theorem idx1_5 : ∀ t : Fin cfg1.N, win1_5.index t = ![0, t.val % 11 + 11] := (by decide +kernel : ∀ t : Fin grid1.N, _)
/-- The block that window 6 reads or writes at each step. -/
theorem idx1_6 : ∀ t : Fin cfg1.N, win1_6.index t = ![t.val / 11, 0] := (by decide +kernel : ∀ t : Fin grid1.N, _)
/-- The block that window 7 reads or writes at each step. -/
theorem idx1_7 : ∀ t : Fin cfg1.N, win1_7.index t = ![t.val / 11, 0] := (by decide +kernel : ∀ t : Fin grid1.N, _)

/-- The gated product of the whole problem, from the arrays the second call reads. -/
def hMain (c : Dev nD) : S24576x5632.Idx → EReal :=
  gatedOf (V c main_v1_0) (V c main_v1_1) (V c main_arg1) (V c main_v2)

/-- There are 528 steps. -/
theorem lt528 (t : Fin cfg1.N) : t.val < 528 := Nat.lt_of_lt_of_eq t.isLt N_1

/-- Row `p` of the block of rows of point `t`. -/
def rowAt (t : Fin cfg1.N) (p : Fin 512) : Fin 24576 := ⟨512 * (t.val / 11) + p.val, by have := lt528 t; omega⟩

/-- The slice of point `t`. -/
def jAt (t : Fin cfg1.N) : Fin 11 := ⟨t.val % 11, Nat.mod_lt _ (by decide)⟩

/-- An element of the block of input 0, as an element of the whole array. -/
theorem in0 (c : Dev nD) (t : Fin cfg1.N) (p : Fin 512) (k : Fin 8192) :
    iblk1 V c 0 t (ValueIdx.ix2 p k) = V c main_v1_0 (ValueIdx.ix2 (rowAt t p) k) := by
  show V c main_v1_0 ((win1_0.blk t).view.emb _) = _
  refine congrArg (V c main_v1_0) ?_
  blk_ext [idx1_0 t, rowAt]
  show t.val / 11 * 512 + p.val = 512 * (t.val / 11) + p.val
  omega

/-- An element of the block of input 1, as an element of the whole array. -/
theorem in1 (c : Dev nD) (t : Fin cfg1.N) (p : Fin 512) :
    iblk1 V c 1 t (ValueIdx.ix2 p 0) = V c main_v1_1 (ValueIdx.ix2 (rowAt t p) 0) := by
  show V c main_v1_1 ((win1_1.blk t).view.emb _) = _
  refine congrArg (V c main_v1_1) ?_
  blk_ext [idx1_1 t, rowAt]
  show t.val / 11 * 512 + p.val = 512 * (t.val / 11) + p.val
  omega

/-- An element of the block of input 2, as an element of the whole array. -/
theorem in2 (c : Dev nD) (t : Fin cfg1.N) (k : Fin 8192) (q : Fin 512) :
    iblk1 V c 2 t (ValueIdx.ix2 k q) = V c main_arg1 (ValueIdx.ix2 k (gateCol (sliceCol (jAt t) q))) := by
  show V c main_arg1 ((win1_2.blk t).view.emb _) = _
  refine congrArg (V c main_arg1) ?_
  blk_ext [idx1_2 t, gateCol, sliceCol, jAt]
  show t.val % 11 * 512 + q.val = 512 * (t.val % 11) + q.val
  omega

/-- An element of the block of input 3, as an element of the whole array. -/
theorem in3 (c : Dev nD) (t : Fin cfg1.N) (k : Fin 8192) (q : Fin 512) :
    iblk1 V c 3 t (ValueIdx.ix2 k q) = V c main_arg1 (ValueIdx.ix2 k (upCol (sliceCol (jAt t) q))) := by
  show V c main_arg1 ((win1_3.blk t).view.emb _) = _
  refine congrArg (V c main_arg1) ?_
  blk_ext [idx1_3 t, upCol, sliceCol, jAt]
  show (t.val % 11 + 11) * 512 + q.val = 5632 + (512 * (t.val % 11) + q.val)
  omega

/-- An element of the block of input 4, as an element of the whole array. -/
theorem in4 (c : Dev nD) (t : Fin cfg1.N) (q : Fin 512) :
    iblk1 V c 4 t (ValueIdx.ix2 0 q) = V c main_v2 (ValueIdx.ix2 0 (gateCol (sliceCol (jAt t) q))) := by
  show V c main_v2 ((win1_4.blk t).view.emb _) = _
  refine congrArg (V c main_v2) ?_
  blk_ext [idx1_4 t, gateCol, sliceCol, jAt]
  show t.val % 11 * 512 + q.val = 512 * (t.val % 11) + q.val
  omega

/-- An element of the block of input 5, as an element of the whole array. -/
theorem in5 (c : Dev nD) (t : Fin cfg1.N) (q : Fin 512) :
    iblk1 V c 5 t (ValueIdx.ix2 0 q) = V c main_v2 (ValueIdx.ix2 0 (upCol (sliceCol (jAt t) q))) := by
  show V c main_v2 ((win1_5.blk t).view.emb _) = _
  refine congrArg (V c main_v2) ?_
  blk_ext [idx1_5 t, upCol, sliceCol, jAt]
  show (t.val % 11 + 11) * 512 + q.val = 5632 + (512 * (t.val % 11) + q.val)
  omega

/-- The slice of point `t` is the gated product's there. -/
theorem slice_eq (c : Dev nD) (t : Fin cfg1.N) (p q : Fin 512) :
    k1_pay24 (iblk1 V c 0 t) (iblk1 V c 1 t) (iblk1 V c 2 t) (iblk1 V c 3 t) (iblk1 V c 4 t) (iblk1 V c 5 t) (ValueIdx.ix2 p q)
      = hMain V c (ValueIdx.ix2 (rowAt t p) (sliceCol (jAt t) q)) := by
  rw [k1_pay24_apply]
  simp only [in0, in1, in2, in3, in4, in5]
  rfl

/-- An element of a slice is an element of the gated product of the whole arrays. -/
theorem hSl_eq (c : Dev nD) (t : Fin cfg1.N) (p q : Fin 512) :
    hSl V c t (ValueIdx.ix3 0 p q) = hMain V c (ValueIdx.ix2 (rowAt t p) (sliceCol (jAt t) q)) := by
  unfold hSl
  rw [hSlice_apply, slice_eq]

/-- The scratch of a complete block of rows holds its gated products. -/
theorem hAll_eq (c : Dev nD) (t : Fin cfg1.N) (j : Fin 11) (p q : Fin 512) :
    hAll V c t (ValueIdx.ix3 j p q) = hMain V c (ValueIdx.ix2 (rowAt t p) (sliceCol j q)) := by
  have ht := lt528 t
  have hj := j.isLt
  have hs : t.val - t.val % 11 + j.val < cfg1.N := by have hN : cfg1.N = 528 := N_1; omega
  have hi : inSlice (ValueIdx.ix3 j p q) = ValueIdx.ix3 0 p q := funext fun a => by
    match a with
    | ⟨0, _⟩ => rfl
    | ⟨1, _⟩ => rfl
    | ⟨2, _⟩ => rfl
  have hr : rowAt ⟨t.val - t.val % 11 + j.val, hs⟩ p = rowAt t p := Fin.ext (by
    show 512 * ((t.val - t.val % 11 + j.val) / 11) + p.val = 512 * (t.val / 11) + p.val; omega)
  have hc : jAt ⟨t.val - t.val % 11 + j.val, hs⟩ = j := Fin.ext (by
    show (t.val - t.val % 11 + j.val) % 11 = j.val; omega)
  show hSl V c ⟨t.val - t.val % 11 + j.val, hs⟩ (inSlice (ValueIdx.ix3 j p q)) = _
  rw [hi, hSl_eq, hr, hc]

/-- The running maximum after point `t` bounds exactly what bounds the columns of its lane in the slices so far. -/
theorem amaxAt_le (c : Dev nD) : ∀ (n : ℕ) (hn : n < cfg1.N) (p : Fin 512) (l : Fin 128) (b : EReal),
    amaxAt V c (n + 1) (ValueIdx.ix2 p l) ≤ b ↔
      ∀ j : Fin 11, j.val ≤ n % 11 → ∀ g : Fin 4, mag (hMain V c (ValueIdx.ix2 (rowAt ⟨n, hn⟩ p) (sliceCol j (laneCol g l)))) ≤ b := by
  intro n
  induction n with
  | zero =>
    intro hn p l b
    rw [show (0 + 1 : ℕ) = (⟨0, hn⟩ : Fin cfg1.N).val + 1 from rfl, amaxAt_succ, amaxNext_zero _ (coord1 ⟨0, hn⟩), k1_pay26_le]
    simp only [slice_eq]
    constructor
    · intro h j hj g
      have : j = jAt ⟨0, hn⟩ := Fin.ext (Nat.le_zero.mp hj)
      rw [this]; exact h g
    · exact fun h g => h (jAt ⟨0, hn⟩) (Nat.le_refl _) g
  | succ n ih =>
    intro hn p l b
    have hn' : n < cfg1.N := by omega
    rw [show n + 1 + 1 = (⟨n + 1, hn⟩ : Fin cfg1.N).val + 1 from rfl, amaxAt_succ]
    by_cases hz : (n + 1) % 11 = 0
    · rw [amaxNext_zero _ ((coord1 ⟨n + 1, hn⟩).trans hz), k1_pay26_le]
      simp only [slice_eq]
      constructor
      · intro h j hj g
        have : j = jAt ⟨n + 1, hn⟩ := Fin.ext (by show j.val = (n + 1) % 11; omega)
        rw [this]; exact h g
      · exact fun h g => h (jAt ⟨n + 1, hn⟩) (Nat.le_refl _) g
    · have hcmp : Scalar.cmpi .eq (BitVec.ofNat 32 (grid1.coords ⟨n + 1, hn⟩ 1).val) 0#32 = 0#1 := by
        rw [coord1]
        exact (by decide : ∀ k : Fin 11, k.val ≠ 0 → Scalar.cmpi .eq (BitVec.ofNat 32 k.val) 0#32 = 0#1) (jAt ⟨n + 1, hn⟩) hz
      rw [amaxNext_pos _ hcmp, max_le_iff, k1_pay26_le]
      simp only [slice_eq]
      have hr : rowAt ⟨n + 1, hn⟩ p = rowAt ⟨n, hn'⟩ p := Fin.ext (by
        show 512 * ((n + 1) / 11) + p.val = 512 * (n / 11) + p.val; omega)
      rw [hr]
      rw [show amaxAt V c (⟨n + 1, hn⟩ : Fin cfg1.N).val = amaxAt V c (n + 1) from rfl, ih hn' p l b]
      constructor
      · rintro ⟨h1, h2⟩ j hj g
        by_cases hjn : j.val ≤ n % 11
        · exact h1 j hjn g
        · have : j = jAt ⟨n + 1, hn⟩ := Fin.ext (by show j.val = (n + 1) % 11; omega)
          rw [this]; exact h2 g
      · exact fun h => ⟨fun j hj g => h j (by omega) g, fun g => h (jAt ⟨n + 1, hn⟩) (Nat.le_refl _) g⟩

/-- After a block of rows' last step, a row's maximum over the lanes is the gated product's greatest magnitude in that row. -/
theorem amax_row (c : Dev nD) (t : Fin cfg1.N) (ht : t.val % 11 = 10) (p : Fin 512) :
    (rowMax fun l : Fin 128 => amaxAt V c (t.val + 1) (ValueIdx.ix2 p l))
      = rowMax fun k : Fin 5632 => mag (hMain V c (ValueIdx.ix2 (rowAt t p) k)) := by
  refine eq_of_forall_ge_iff fun b => ?_
  rw [rowMax_le, rowMax_le]
  constructor
  · intro h k
    have hk := k.isLt
    have := (amaxAt_le V c t.val t.isLt p ⟨k.val % 128, Nat.mod_lt _ (by decide)⟩ b).mp (h _) ⟨k.val / 512, by omega⟩ (by
      show k.val / 512 ≤ t.val % 11; omega) ⟨k.val % 512 / 128, by omega⟩
    have e : sliceCol ⟨k.val / 512, by omega⟩ (laneCol ⟨k.val % 512 / 128, by omega⟩ ⟨k.val % 128, Nat.mod_lt _ (by decide)⟩) = k := Fin.ext (by
      show 512 * (k.val / 512) + (128 * (k.val % 512 / 128) + k.val % 128) = k.val; omega)
    rw [e] at this
    exact this
  · exact fun h l => (amaxAt_le V c t.val t.isLt p l b).mpr fun j _ g => h _

/-- The scales' array after the second call: the scales of the gated product. -/
theorem final1_6 (c : Dev nD) : (dat1 V c).arrAt 6 cfg1.N = scales (N := 24576) (n := 5632) (hMain V c) := by
  refine (dat1 V c).arrAt_eq_of_covers 6 _ (by decide +kernel) fun t hf y => ?_
  blk_simp
  rw [after1_6, out1_6_apply]
  have hz : (win1_6.blk t).view.emb y 0 = rowAt t (y 0) := Fin.ext (by
    have h : ((win1_6.blk t).view.emb y 0 : Nat) = t.val / 11 * 512 + (y 0).val := by blk_simp [idx1_6 t]
    rw [h]; show t.val / 11 * 512 + (y 0).val = 512 * (t.val / 11) + (y 0).val; omega)
  refine (congrArg scaleOf (amax_row V c t ((flush1_6 t).mp hf) (y 0))).trans ?_
  rw [← hz]
  rfl

/-- The codes' array after the second call: the codes of the gated product. -/
theorem final1_7 (c : Dev nD) : (dat1 V c).arrAt 7 cfg1.N = codes (N := 24576) (n := 5632) (hMain V c) := by
  refine (dat1 V c).arrAt_eq_of_covers 7 _ (by decide +kernel) fun t hf y => ?_
  blk_simp
  rw [after1_7, out1_7_eq (hAll V c t) (amaxAt V c (t.val + 1)) (fun z => codes (N := 24576) (n := 5632) (hMain V c) (ValueIdx.ix2 (rowAt t (z 0)) (z 1)))]
  · refine congrArg (codes (N := 24576) (n := 5632) (hMain V c)) ?_
    blk_ext [idx1_7 t, rowAt]
  · intro j p q
    rw [hAll_eq, amax_row V c t ((flush1_7 t).mp hf) p]
    rfl

end Arrays

end Cert.KernelIdeal.Gen

end
-- ==== Proof.Results.lean ====
/- The kernel's run with its four results written as functions of its arguments. -/
module

public import proofs.«01_k».proof.Proof.Run
public import proofs.«01_k».proof.Proof.QuantValue
public import proofs.«01_k».proof.Proof.MainArrays

@[expose] public section

set_option maxRecDepth 65536

noncomputable section

namespace Cert.KernelIdeal.Gen

open Idealize.ShloMosaic Idealize.ShloMosaic.TcCoe Idealize.SL.Sem Cert.Quant

variable (m : (ℓ : Loc nD τ sig) → Buf (Elt Ideal) ℓ) (ρ : Dev nD → PrngReg)

/-- The input as a matrix of rows: the first argument, its two leading axes merged. -/
def xRows (c : Dev nD) : S24576x8192.Idx → EReal :=
  shapeCast S24576x8192 (m ((c : Thread nD τ).loc main_arg0)) shapeCasts_S8x3072x8192_S24576x8192

/-- The gated product of the whole problem, from the arguments. -/
def hArgs (c : Dev nD) : S24576x5632.Idx → EReal :=
  gatedOf (codes (N := 24576) (n := 8192) (xRows m c)) (scales (N := 24576) (n := 8192) (xRows m c)) (m ((c : Thread nD τ).loc main_arg1))
    (shapeCast S1x11264 (m ((c : Thread nD τ).loc main_arg2)) shapeCasts_S11264_S1x11264)

/-- The first call is given the rows of the input. -/
theorem V1_main_v0 (c : Dev nD) : V1 m ρ c main_v0 = xRows m c := by
  show StableHlo.after hostOps0 (W0 m ρ c) _ = _
  unfold hostOps0
  rw [StableHlo.after_cons, StableHlo.after_nil, StableHlo.reshape_result]
  rfl

/-- The second call is given the codes of the input. -/
theorem V3_main_v1_0 (c : Dev nD) : V3 m ρ c main_v1_0 = codes (N := 24576) (n := 8192) (xRows m c) :=
  (W3_of m ρ c main_v1_0 (by decide)).trans ((W2_arr m ρ c 1).trans ((final0_1 (V1 m ρ) c).trans (by rw [V1_main_v0])))

/-- The second call is given the scales of the input. -/
theorem V3_main_v1_1 (c : Dev nD) : V3 m ρ c main_v1_1 = scales (N := 24576) (n := 8192) (xRows m c) :=
  (W3_of m ρ c main_v1_1 (by decide)).trans ((W2_arr m ρ c 2).trans ((final0_2 (V1 m ρ) c).trans (by rw [V1_main_v0])))

/-- The second call is given the weights' codes as they came. -/
theorem V3_main_arg1 (c : Dev nD) : V3 m ρ c main_arg1 = m ((c : Thread nD τ).loc main_arg1) :=
  W3_args m ρ c main_arg1 (by decide)

/-- The second call is given the weights' scales as a row. -/
theorem V3_main_v2 (c : Dev nD) :
    V3 m ρ c main_v2 = shapeCast S1x11264 (m ((c : Thread nD τ).loc main_arg2)) shapeCasts_S11264_S1x11264 := by
  show StableHlo.after hostOps1 (W2 m ρ c) _ = _
  unfold hostOps1
  rw [StableHlo.after_cons, StableHlo.after_nil, StableHlo.reshape_result, W2_args m ρ c main_arg2 (by decide)]
  rfl

/-- What the second call reads gives the gated product of the arguments. -/
theorem hMain_eq (c : Dev nD) : hMain (V3 m ρ) c = hArgs m c := by
  unfold hMain hArgs
  rw [V3_main_v1_0, V3_main_v1_1, V3_main_arg1, V3_main_v2]

/-- The kernel's run: its four results are the scales and codes of the gated product and the codes and scales of the
    input, and its arguments are unchanged. -/
theorem run_results : θ_run defs (onTc (τ := τ) (main (F := Ideal))) ⟨m, fun _ => 0, ρ⟩ (fun r => ∀ c : Dev nD,
      r.2.mem ((c.tc : Thread nD τ).loc main_v3_0) = scales (N := 24576) (n := 5632) (hArgs m c)
      ∧ r.2.mem ((c.tc : Thread nD τ).loc main_v3_1) = codes (N := 24576) (n := 5632) (hArgs m c)
      ∧ r.2.mem ((c.tc : Thread nD τ).loc main_v1_0) = codes (N := 24576) (n := 8192) (xRows m c)
      ∧ r.2.mem ((c.tc : Thread nD τ).loc main_v1_1) = scales (N := 24576) (n := 8192) (xRows m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
    ⟨(h c).1.trans ((final1_6 (V3 m ρ) c).trans (by rw [hMain_eq])),
     (h c).2.1.trans ((final1_7 (V3 m ρ) c).trans (by rw [hMain_eq])),
     (h c).2.2.1.trans ((final0_1 (V1 m ρ) c).trans (by rw [V1_main_v0])),
     (h c).2.2.2.1.trans ((final0_2 (V1 m ρ) c).trans (by rw [V1_main_v0])),
     (h c).2.2.2.2⟩) (run_values m ρ)

end Cert.KernelIdeal.Gen

end
-- ==== Proof.RefValue.lean ====
/- What the reference computes: the codes and scales of the input's rows, and those of the gated product's rows. -/
module

public import proofs.«01_k».proof.Proof.Gen.ReferenceIdeal.Frame
public import proofs.«01_k».proof.Proof.Rows
public import Idealize.ShloMosaic.Lib.MatmulPlain
public import Idealize.ShloMosaic.Lib.Pipeline.ValueKit

@[expose] public section

set_option maxRecDepth 65536

noncomputable section

namespace Cert.ReferenceIdeal.Gen

open Idealize.ShloMosaic Idealize.ShloMosaic.TcCoe Idealize.SL.Sem Cert.Quant
open Idealize.ShloMosaic.Pipeline (Dat Cfg Window cellOf)

/-! ## The quantiser on vectors -/

section Vectors

variable {s : Shape}

/-- The reference's exponent, element by element, from the rows' greatest magnitudes. -/
def rExpV (a : FVec Ideal s .f32) : FVec Ideal s .f32 :=
  select (cmpf .oeq a (broadcast s (Scalar.ofBits .f32 0x00000000#32))) (broadcast s (Scalar.ofBits .f32 0x00000000#32))
    (select (andi (cmpf .oge (ratioV a) (broadcast s (Scalar.ofBits .f32 0x00800000#32)))
        (cmpf .ole (ratioV a) (broadcast s (Scalar.ofBits .f32 0x7F7FFFFF#32))))
      (addf (floor (divf (log (ratioV a)) (broadcast s (Named.named κ "ln_2" 0x3F317218#32)))) (broadcast s (Scalar.ofBits .f32 0x3F800000#32)))
      (broadcast s (Scalar.ofBits .f32 0x00000000#32)))

/-- The named constant is the real number log 2. -/
theorem named_ln2 : (Named.named (F := Ideal) κ "ln_2" 0x3F317218#32 : Ideal .f32) = ((Real.log 2 : ℝ) : EReal) :=
  IdealRules.named_const.ideal_named_scalar _ _ _ _ rfl

/-- The reference's exponent, read at an index. -/
theorem rExpV_apply (a : FVec Ideal s .f32) (j : s.Idx) : rExpV a j = rExp (a j) := by
  unfold rExpV rExp
  rw [named_ln2]
  rfl

/-- The power of the negated exponent. -/
def invV (e : FVec Ideal s .f32) : FVec Ideal s .f32 := exp2 (subf (broadcast s (Scalar.ofBits .f32 0x00000000#32)) e)

/-- The operation, read at an index. -/
theorem invV_apply (e : FVec Ideal s .f32) (j : s.Idx) : invV e j = Ideal.exp2 (Ideal.ofBits .f32 0x00000000#32 - e j) := rfl

/-- The operation, read at an index. -/
theorem exp2V_apply (e : FVec Ideal s .f32) (j : s.Idx) : exp2 e j = Ideal.exp2 (e j) := rfl

/-- The operation, read at an index. -/
theorem logisticV_apply (e : FVec Ideal s .f32) (j : s.Idx) : logistic e j = Ideal.logistic (e j) := rfl

end Vectors

/-! ## The input's quantisation -/

/-- A piece of the body, in the shared form. -/
theorem k0_pay1_eq (x : Vec Ideal S24576x8192 .bf16) : k0_pay1 x = x := by
  unfold k0_pay1; rw [shapeCast_self]; rfl

/-- The greatest magnitudes of the rows of the input, as a column. -/
def amaxX (x : FVec Ideal S24576x8192 .f32) : FVec Ideal S24576x1 .f32 :=
  shapeCast S24576x1 (multiReduction .maximumf [1] S24576 (absf x) 0xFF800000#32 reduces_S24576x8192_S24576 (.inl rfl) rfl) shapeCasts_S24576_S24576x1

/-- A row's greatest magnitude. -/
theorem amaxX_apply (x : FVec Ideal S24576x8192 .f32) (j : S24576x1.Idx) :
    amaxX x j = rowMax fun k : Fin 8192 => mag (x (ValueIdx.ix2 (j 0) k)) :=
  rowMax_apply _ _ _ _ _ j

/-- A piece of the body, in the shared form. -/
theorem k0_pay2_eq (x : Vec Ideal S24576x8192 .bf16) : k0_pay2 x = rExpV (amaxX (k0_pay1 x)) := rfl

/-- A piece of the body, in the shared form. -/
theorem k0_pay3_eq (x : Vec Ideal S24576x8192 .bf16) :
    k0_pay3 x = clipV (mulf (k0_pay1 x) (broadcastTo S24576x8192 (invV (k0_pay2 x)) broadcasts_S24576x1_S24576x8192)) := rfl

/-- A piece of the body, in the shared form. -/
theorem k0_pay4_eq (x : Vec Ideal S24576x8192 .bf16) : k0_pay4 x = exp2 (k0_pay2 x) := rfl

/-- The input's codes. -/
theorem codesX (x : Vec Ideal S24576x8192 .bf16) : k0_pay3 x = codes (N := 24576) (n := 8192) x := by
  funext j
  rw [k0_pay3_eq, clipV_apply, mulf_apply, spreadCol_apply _ _ (by decide), invV_apply, k0_pay2_eq, rExpV_apply, amaxX_apply, k0_pay1_eq]
  rfl

/-- The input's scales. -/
theorem scalesX (x : Vec Ideal S24576x8192 .bf16) : k0_pay4 x = scales (N := 24576) (n := 8192) x := by
  funext j
  rw [k0_pay4_eq, exp2V_apply, k0_pay2_eq, rExpV_apply, amaxX_apply, k0_pay1_eq]
  rfl

/-! ## The gated product -/

/-- The scaled products of the input with all the weights. -/
theorem k0_pay5_apply (x : Vec Ideal S24576x8192 .bf16) (w : Vec Ideal S8192x11264 .fp8e4m3) (r : Fin 24576) (q : Fin 11264) :
    k0_pay5 x w (ValueIdx.ix2 r q)
      = (∑ k : Fin 8192, codes (N := 24576) (n := 8192) x (ValueIdx.ix2 r k) * w (ValueIdx.ix2 k q)) * scales (N := 24576) (n := 8192) x (ValueIdx.ix2 r 0) := by
  unfold k0_pay5
  rw [mulf_apply, spreadCol_apply _ _ (by decide), codesX, scalesX]
  refine congrArg (· * _) ?_
  refine (Ideal.matmul_plain_apply (M := 24576) (K := 8192) (N := 11264) (φ₁ := .fp8e4m3) (φ₂ := .fp8e4m3) none _ _ _ r q).trans ?_
  exact (congrArg (· + _) (Ideal.ofBits_zero (φ := .f32))).trans (zero_add _)

/-- One element of the gated product, from the product before scaling. -/
theorem k0_pay6_apply (v : FVec Ideal S24576x11264 .f32) (ws : Vec Ideal S1x11264 .f32) (r : Fin 24576) (q : Fin 5632) :
    k0_pay6 v ws (ValueIdx.ix2 r q) = (v (ValueIdx.ix2 r (gateCol q)) * ws (ValueIdx.ix2 0 (gateCol q)))
      * Ideal.logistic (v (ValueIdx.ix2 r (gateCol q)) * ws (ValueIdx.ix2 0 (gateCol q)))
      * (v (ValueIdx.ix2 r (upCol q)) * ws (ValueIdx.ix2 0 (upCol q))) := by
  unfold k0_pay6
  have hg : ∀ (x : FVec Ideal S24576x11264 .f32), extractStridedSlice S24576x5632 ![0, 0] x slices_S24576x11264_o0_0_S24576x5632 (ValueIdx.ix2 r q)
      = x (ValueIdx.ix2 r (gateCol q)) := fun x => congrArg x (funext fun a => Fin.ext (by
    match a with
    | ⟨0, _⟩ => exact Nat.zero_add _
    | ⟨1, _⟩ => exact Nat.zero_add _))
  have hu : ∀ (x : FVec Ideal S24576x11264 .f32), extractStridedSlice S24576x5632 ![0, 5632] x slices_S24576x11264_o0_5632_S24576x5632 (ValueIdx.ix2 r q)
      = x (ValueIdx.ix2 r (upCol q)) := fun x => congrArg x (funext fun a => Fin.ext (by
    match a with
    | ⟨0, _⟩ => exact Nat.zero_add _
    | ⟨1, _⟩ => rfl))
  rw [mulf_apply, mulf_apply, logisticV_apply, hg, hu, shapeCast_self, mulf_apply, mulf_apply, spreadRow_apply _ _ (by decide), spreadRow_apply _ _ (by decide)]
  rfl

/-- The gated product. -/
theorem gated_eq (x : Vec Ideal S24576x8192 .bf16) (w : Vec Ideal S8192x11264 .fp8e4m3) (ws : Vec Ideal S1x11264 .f32) :
    k0_pay6 (k0_pay5 x w) ws = gatedOf (codes (N := 24576) (n := 8192) x) (scales (N := 24576) (n := 8192) x) w ws := by
  funext j
  obtain ⟨r, q, rfl⟩ : ∃ r q, j = ValueIdx.ix2 r q := ⟨j 0, j 1, funext fun a => by match a with | ⟨0, _⟩ => rfl | ⟨1, _⟩ => rfl⟩
  rw [k0_pay6_apply, k0_pay5_apply, k0_pay5_apply]; rfl

/-! ## The gated product's quantisation -/

/-- The greatest magnitudes of the rows of the gated product, as a column. -/
def amaxH (h : FVec Ideal S24576x5632 .f32) : FVec Ideal S24576x1 .f32 :=
  shapeCast S24576x1 (multiReduction .maximumf [1] S24576 (absf h) 0xFF800000#32 reduces_S24576x5632_S24576 (.inl rfl) rfl) shapeCasts_S24576_S24576x1

/-- A row's greatest magnitude. -/
theorem amaxH_apply (h : FVec Ideal S24576x5632 .f32) (j : S24576x1.Idx) :
    amaxH h j = rowMax fun k : Fin 5632 => mag (h (ValueIdx.ix2 (j 0) k)) :=
  rowMax_apply _ _ _ _ _ j

/-- A piece of the body, in the shared form. -/
theorem k0_pay7_eq (v : FVec Ideal S24576x11264 .f32) (ws : Vec Ideal S1x11264 .f32) : k0_pay7 v ws = rExpV (amaxH (k0_pay6 v ws)) := rfl

/-- A piece of the body, in the shared form. -/
theorem k0_pay8_eq (v : FVec Ideal S24576x11264 .f32) (ws : Vec Ideal S1x11264 .f32) :
    k0_pay8 v ws = clipV (mulf (k0_pay6 v ws) (broadcastTo S24576x5632 (invV (k0_pay7 v ws)) broadcasts_S24576x1_S24576x5632)) := rfl

/-- A piece of the body, in the shared form. -/
theorem k0_pay9_eq (v : FVec Ideal S24576x11264 .f32) (ws : Vec Ideal S1x11264 .f32) : k0_pay9 v ws = exp2 (k0_pay7 v ws) := rfl

/-- The codes of the gated product. -/
theorem codesH (v : FVec Ideal S24576x11264 .f32) (ws : Vec Ideal S1x11264 .f32) :
    k0_pay8 v ws = codes (N := 24576) (n := 5632) (k0_pay6 v ws) := by
  funext j
  rw [k0_pay8_eq, clipV_apply, mulf_apply, spreadCol_apply _ _ (by decide), invV_apply, k0_pay7_eq, rExpV_apply, amaxH_apply]
  rfl

/-- The scales of the gated product. -/
theorem scalesH (v : FVec Ideal S24576x11264 .f32) (ws : Vec Ideal S1x11264 .f32) :
    k0_pay9 v ws = scales (N := 24576) (n := 5632) (k0_pay6 v ws) := by
  funext j
  rw [k0_pay9_eq, exp2V_apply, k0_pay7_eq, rExpV_apply, amaxH_apply]
  rfl

/-! ## The output windows' blocks -/

/-- What the body leaves in output window 3. -/
theorem out0_3_eq (x : Vec Ideal S24576x8192 .bf16) (w : Vec Ideal S8192x11264 .fp8e4m3) (ws : Vec Ideal S1x11264 .f32) :
    out0_3 x w ws = scales (gatedOf (codes (N := 24576) (n := 8192) x) (scales (N := 24576) (n := 8192) x) w ws) := by
  unfold out0_3 k0_pay10
  rw [View.canon_unit_zero zero2, View.ld_unit_zero zero2, View.ld_unit_zero zero2, View.ld_unit_zero zero2, scalesH, gated_eq]

/-- What the body leaves in output window 4. -/
theorem out0_4_eq (x : Vec Ideal S24576x8192 .bf16) (w : Vec Ideal S8192x11264 .fp8e4m3) (ws : Vec Ideal S1x11264 .f32) :
    out0_4 x w ws = codes (gatedOf (codes (N := 24576) (n := 8192) x) (scales (N := 24576) (n := 8192) x) w ws) := by
  unfold out0_4 k0_pay10
  rw [View.canon_unit_zero zero2, View.ld_unit_zero zero2, View.ld_unit_zero zero2, View.ld_unit_zero zero2, codesH, gated_eq]

/-- What the body leaves in output window 5. -/
theorem out0_5_eq (x : Vec Ideal S24576x8192 .bf16) (w : Vec Ideal S8192x11264 .fp8e4m3) (ws : Vec Ideal S1x11264 .f32) :
    out0_5 x w ws = codes (N := 24576) (n := 8192) x := by
  unfold out0_5
  rw [View.canon_unit_zero zero2, View.ld_unit_zero zero2, codesX]

/-- What the body leaves in output window 6. -/
theorem out0_6_eq (x : Vec Ideal S24576x8192 .bf16) (w : Vec Ideal S8192x11264 .fp8e4m3) (ws : Vec Ideal S1x11264 .f32) :
    out0_6 x w ws = scales (N := 24576) (n := 8192) x := by
  unfold out0_6
  rw [View.canon_unit_zero zero2, View.ld_unit_zero zero2, scalesX]

/-! ## The arrays after the run -/

section Arrays

variable (m : (ℓ : Loc nD τ sig) → Buf (Elt Ideal) ℓ) (ρ : Dev nD → PrngReg)

/-- Window 0 is the whole array. -/
theorem idx_0 : ∀ t : Fin cfg0.N, win0_0.index t = ![0, 0] := (by decide +kernel : ∀ t : Fin grid0.N, _)
/-- Window 1 is the whole array. -/
theorem idx_1 : ∀ t : Fin cfg0.N, win0_1.index t = ![0, 0] := (by decide +kernel : ∀ t : Fin grid0.N, _)
/-- Window 2 is the whole array. -/
theorem idx_2 : ∀ t : Fin cfg0.N, win0_2.index t = ![0, 0] := (by decide +kernel : ∀ t : Fin grid0.N, _)
/-- Window 3 is the whole array. -/
theorem idx_3 : ∀ t : Fin cfg0.N, win0_3.index t = ![0, 0] := (by decide +kernel : ∀ t : Fin grid0.N, _)
/-- Window 4 is the whole array. -/
theorem idx_4 : ∀ t : Fin cfg0.N, win0_4.index t = ![0, 0] := (by decide +kernel : ∀ t : Fin grid0.N, _)
/-- Window 5 is the whole array. -/
theorem idx_5 : ∀ t : Fin cfg0.N, win0_5.index t = ![0, 0] := (by decide +kernel : ∀ t : Fin grid0.N, _)
/-- Window 6 is the whole array. -/
theorem idx_6 : ∀ t : Fin cfg0.N, win0_6.index t = ![0, 0] := (by decide +kernel : ∀ t : Fin grid0.N, _)

/-- The block of input 0 is the whole array. -/
theorem iblk_0 (c : Dev nD) (t : Fin cfg0.N) : iblk m c 0 t = V m c main_v0 := by
  funext z
  show V m c main_v0 ((win0_0.blk t).view.emb z) = _
  refine congrArg (V m c main_v0) ?_
  blk_ext [idx_0 t]

/-- The block of input 1 is the whole array. -/
theorem iblk_1 (c : Dev nD) (t : Fin cfg0.N) : iblk m c 1 t = V m c main_arg1 := by
  funext z
  show V m c main_arg1 ((win0_1.blk t).view.emb z) = _
  refine congrArg (V m c main_arg1) ?_
  blk_ext [idx_1 t]

/-- The block of input 2 is the whole array. -/
theorem iblk_2 (c : Dev nD) (t : Fin cfg0.N) : iblk m c 2 t = V m c main_v1 := by
  funext z
  show V m c main_v1 ((win0_2.blk t).view.emb z) = _
  refine congrArg (V m c main_v1) ?_
  blk_ext [idx_2 t]

/-- The input read as a matrix of rows. -/
def xRows (c : Dev nD) : S24576x8192.Idx → EReal := V m c main_v0

/-- The gated product of the whole problem. -/
def hAll (c : Dev nD) : S24576x5632.Idx → EReal :=
  gatedOf (codes (N := 24576) (n := 8192) (xRows m c)) (scales (N := 24576) (n := 8192) (xRows m c)) (V m c main_arg1) (V m c main_v1)

/-- The first result: the scales of the gated product. -/
theorem final_3 (c : Dev nD) : (dats m 0 c).arrAt 3 cfg0.N = scales (N := 24576) (n := 5632) (hAll m c) := by
  refine (dats m 0 c).arrAt_eq_of_covers 3 _ (by decide +kernel) fun t hf y => ?_
  blk_simp
  rw [after0_3, iblk_0, iblk_1, iblk_2, out0_3_eq]
  refine congrArg (scales (N := 24576) (n := 5632) (hAll m c)) ?_
  blk_ext [idx_3 t]

/-- The second result: the codes of the gated product. -/
theorem final_4 (c : Dev nD) : (dats m 0 c).arrAt 4 cfg0.N = codes (N := 24576) (n := 5632) (hAll m c) := by
  refine (dats m 0 c).arrAt_eq_of_covers 4 _ (by decide +kernel) fun t hf y => ?_
  blk_simp
  rw [after0_4, iblk_0, iblk_1, iblk_2, out0_4_eq]
  refine congrArg (codes (N := 24576) (n := 5632) (hAll m c)) ?_
  blk_ext [idx_4 t]

/-- The third result: the codes of the input. -/
theorem final_5 (c : Dev nD) : (dats m 0 c).arrAt 5 cfg0.N = codes (N := 24576) (n := 8192) (xRows m c) := by
  refine (dats m 0 c).arrAt_eq_of_covers 5 _ (by decide +kernel) fun t hf y => ?_
  blk_simp
  rw [after0_5, iblk_0, iblk_1, iblk_2, out0_5_eq]
  refine congrArg (codes (N := 24576) (n := 8192) (xRows m c)) ?_
  blk_ext [idx_5 t]

/-- The fourth result: the scales of the input. -/
theorem final_6 (c : Dev nD) : (dats m 0 c).arrAt 6 cfg0.N = scales (N := 24576) (n := 8192) (xRows m c) := by
  refine (dats m 0 c).arrAt_eq_of_covers 6 _ (by decide +kernel) fun t hf y => ?_
  blk_simp
  rw [after0_6, iblk_0, iblk_1, iblk_2, out0_6_eq]
  refine congrArg (scales (N := 24576) (n := 8192) (xRows m c)) ?_
  blk_ext [idx_6 t]

/-- The reference's run: its four results are the scales and codes of the gated product and of the input, and its
    arguments are unchanged. -/
theorem run_values : θ_run defs (onTc (τ := τ) (main (F := Ideal))) ⟨m, fun _ => 0, ρ⟩ (fun r => ∀ c : Dev nD,
    r.2.mem ((c.tc : Thread nD τ).loc main_v2_0) = scales (N := 24576) (n := 5632) (hAll m c)
    ∧ r.2.mem ((c.tc : Thread nD τ).loc main_v2_1) = codes (N := 24576) (n := 5632) (hAll m c)
    ∧ r.2.mem ((c.tc : Thread nD τ).loc main_v2_2) = codes (N := 24576) (n := 8192) (xRows m c)
    ∧ r.2.mem ((c.tc : Thread nD τ).loc main_v2_3) = scales (N := 24576) (n := 8192) (xRows m c)
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)) :=
  (θ_run defs _ _).mono (fun _ h c => ⟨((h c).1 3).trans (final_3 m c), ((h c).1 4).trans (final_4 m c),
      ((h c).1 5).trans (final_5 m c), ((h c).1 6).trans (final_6 m c),
      ((h c).2 main_arg0 (Pipeline.mem_restRefs_of main_arg0 (by decide) (by decide))).trans (V_main_arg0 m c),
      ((h c).1 1).trans (((dats m 0 c).arrAt_in 1 rfl _).trans ((A_eq m c 1).trans (V_main_arg1 m c))),
      ((h c).2 main_arg2 (Pipeline.mem_restRefs_of main_arg2 (by decide) (by decide))).trans (V_main_arg2 m c)⟩) (run_main m ρ)

/-- The input's rows are the first argument, its two leading axes merged. -/
theorem xRows_eq (c : Dev nD) :
    xRows m c = shapeCast S24576x8192 (m ((c : Thread nD τ).loc main_arg0)) shapeCasts_S8x3072x8192_S24576x8192 := by
  unfold xRows V hostOps0
  rw [StableHlo.after_cons, StableHlo.after_cons, StableHlo.after_nil, StableHlo.reshape_result_ne _ _ _ _ _ _ _ (by decide), StableHlo.reshape_result]
  rfl

/-- The weights' scales as a row are the third argument. -/
theorem wScales_eq (c : Dev nD) :
    V m c main_v1 = shapeCast S1x11264 (m ((c : Thread nD τ).loc main_arg2)) shapeCasts_S11264_S1x11264 := by
  unfold V hostOps0
  rw [StableHlo.after_cons, StableHlo.after_cons, StableHlo.after_nil, StableHlo.reshape_result, StableHlo.reshape_result_ne _ _ _ _ _ _ _ (by decide)]
  rfl

end Arrays

end Cert.ReferenceIdeal.Gen

end
-- ==== Proof.lean ====
/- The certificate of the gated product with quantised operands: the three frames, the idealisation, and the equality of
   the kernel's four results with the reference's over the extended reals. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Frame
public import proofs.«01_k».proof.Proof.Same
public import proofs.«01_k».proof.Proof.Results
public import proofs.«01_k».proof.Proof.RefValue

@[expose] public section

set_option maxRecDepth 65536

noncomputable section

namespace Cert.Proof

open Idealize.ShloMosaic Idealize.SL.Sem Cert.Quant

section Agree

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)

/-- On equal arguments the two programs read the same rows. -/
theorem xRows_agree (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) :
    Cert.ReferenceIdeal.Gen.xRows m' c = Cert.KernelIdeal.Gen.xRows m c := by
  rw [Cert.ReferenceIdeal.Gen.xRows_eq]
  unfold Cert.KernelIdeal.Gen.xRows
  exact congrArg (fun x => shapeCast Cert.KernelIdeal.S24576x8192 x Cert.KernelIdeal.Gen.shapeCasts_S8x3072x8192_S24576x8192) h0

/-- On equal arguments the two programs have the same gated product. -/
theorem gated_agree (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) :
    Cert.ReferenceIdeal.Gen.hAll m' c = Cert.KernelIdeal.Gen.hArgs m c := by
  have e1 : Cert.ReferenceIdeal.Gen.V m' c Cert.ReferenceIdeal.main_arg1 = m ((c.tc : Thread Cert.KernelIdeal.nD Cert.KernelIdeal.τ).loc Cert.KernelIdeal.main_arg1) :=
    (Cert.ReferenceIdeal.Gen.V_main_arg1 m' c).trans h1
  have e2 : Cert.ReferenceIdeal.Gen.V m' c Cert.ReferenceIdeal.main_v1
      = shapeCast Cert.KernelIdeal.S1x11264 (m ((c.tc : Thread Cert.KernelIdeal.nD Cert.KernelIdeal.τ).loc Cert.KernelIdeal.main_arg2)) Cert.KernelIdeal.Gen.shapeCasts_S11264_S1x11264 :=
    (Cert.ReferenceIdeal.Gen.wScales_eq m' c).trans
      (congrArg (fun x => shapeCast Cert.KernelIdeal.S1x11264 x Cert.KernelIdeal.Gen.shapeCasts_S11264_S1x11264) h2)
  unfold Cert.ReferenceIdeal.Gen.hAll Cert.KernelIdeal.Gen.hArgs
  rw [xRows_agree m m' c h0]
  exact congrArg₂ (gatedOf _ _) e1 e2

end Agree

/-- Over the extended reals the kernel and the reference have equal results: the scales and codes of the gated
    product, and the codes and scales of the input. -/
theorem algebraic : Cert.algebraic_KernelIdeal_ReferenceIdeal := by
  intro m g m' g' _ hargs
  refine ⟨fun c => scales (N := 24576) (n := 5632) (Cert.KernelIdeal.Gen.hArgs m c), fun c => codes (N := 24576) (n := 5632) (Cert.KernelIdeal.Gen.hArgs m c),
    fun c => codes (N := 24576) (n := 8192) (Cert.KernelIdeal.Gen.xRows m c), fun c => scales (N := 24576) (n := 8192) (Cert.KernelIdeal.Gen.xRows m c),
    Cert.KernelIdeal.Gen.run_results m g, ?_⟩
  refine (θ_run Cert.ReferenceIdeal.defs _ _).mono (fun r h c => ?_) (Cert.ReferenceIdeal.Gen.run_values m' g')
  obtain ⟨h0, h1, h2⟩ := hargs c
  have ex := xRows_agree m m' c h0
  have eh := gated_agree m m' c h0 h1 h2
  obtain ⟨r0, r1, r2, r3, ha⟩ := h c
  exact ⟨r0.trans (congrArg (scales (N := 24576) (n := 5632)) eh), r1.trans (congrArg (codes (N := 24576) (n := 5632)) eh),
    r2.trans (congrArg (codes (N := 24576) (n := 8192)) ex), r3.trans (congrArg (scales (N := 24576) (n := 8192)) ex), ha⟩

/-- Everything the certificate claims. -/
theorem claim : Cert.Claim :=
  ⟨Cert.Kernel.Gen.facts, Cert.KernelIdeal.Gen.facts, Cert.ReferenceIdeal.Gen.facts,
    fun m g _ => Cert.Same.frame m g, fun m g _ => Cert.KernelIdeal.Gen.frame m g, fun m g _ => Cert.ReferenceIdeal.Gen.frame m g,
    trivial, algebraic⟩

end Cert.Proof

end
